-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_KernelIdeal [hPre_small_KernelIdeal : Cert.Pre_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_ReferenceIdeal [hPre_small_ReferenceIdeal : Cert.Pre_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_PlainIdeal (m : (ℓ : Loc Cert.PlainIdeal.nD Cert.PlainIdeal.τ Cert.PlainIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_small_KernelIdeal [hKernelIdeal : Cert.KernelIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_small_ReferenceIdeal [hReferenceIdeal : Cert.ReferenceIdeal.Facts] [hPre_small_ReferenceIdeal : Cert.Pre_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1))
      ∧ r.2.sem = fun _ => 0)

def preserves_Kernel_KernelIdeal : Prop :=
  True

def algebraic_KernelIdeal_PlainIdeal [hKernelIdeal : Cert.KernelIdeal.Facts] [hPlainIdeal : Cert.PlainIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.PlainIdeal.nD Cert.PlainIdeal.τ Cert.PlainIdeal.sig) → Buf (Elt Ideal) ℓ) (g' : Dev Cert.PlainIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.PlainIdeal.nD).tc : Thread Cert.PlainIdeal.nD Cert.PlainIdeal.τ).loc Cert.PlainIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.PlainIdeal.nD).tc : Thread Cert.PlainIdeal.nD Cert.PlainIdeal.τ).loc Cert.PlainIdeal.main_arg1))) →
    ∃ (v0 : Buf (Elt Ideal) (((0 : Dev Cert.PlainIdeal.nD).tc : Thread Cert.PlainIdeal.nD Cert.PlainIdeal.τ).loc Cert.PlainIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.PlainIdeal.defs (F := Ideal)) (onTc (τ := Cert.PlainIdeal.τ) (Cert.PlainIdeal.main (F := Ideal))) ⟨m', fun _ => 0, g'⟩ (fun r =>
          r.2.mem (((0 : Dev Cert.PlainIdeal.nD).tc : Thread Cert.PlainIdeal.nD Cert.PlainIdeal.τ).loc Cert.PlainIdeal.main_v8) = v0
          ∧ r.2.mem (((0 : Dev Cert.PlainIdeal.nD).tc : Thread Cert.PlainIdeal.nD Cert.PlainIdeal.τ).loc Cert.PlainIdeal.main_arg0) = m' (((0 : Dev Cert.PlainIdeal.nD).tc : Thread Cert.PlainIdeal.nD Cert.PlainIdeal.τ).loc Cert.PlainIdeal.main_arg0)
          ∧ r.2.mem (((0 : Dev Cert.PlainIdeal.nD).tc : Thread Cert.PlainIdeal.nD Cert.PlainIdeal.τ).loc Cert.PlainIdeal.main_arg1) = m' (((0 : Dev Cert.PlainIdeal.nD).tc : Thread Cert.PlainIdeal.nD Cert.PlainIdeal.τ).loc Cert.PlainIdeal.main_arg1))

def algebraic_KernelIdeal_ReferenceIdeal_pre_small_KernelIdeal [hKernelIdeal : Cert.KernelIdeal.Facts] [hReferenceIdeal : Cert.ReferenceIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPlainIdeal : Cert.PlainIdeal.Facts) (hPre_small_KernelIdeal : Cert.Pre_small_KernelIdeal.Facts) (hPre_small_ReferenceIdeal : Cert.Pre_small_ReferenceIdeal.Facts),
    quiescent_Kernel (hKernel := hKernel)
    ∧ quiescent_KernelIdeal (hKernelIdeal := hKernelIdeal)
    ∧ quiescent_KernelIdeal_pre_small_KernelIdeal (hKernelIdeal := hKernelIdeal) (hPre_small_KernelIdeal := hPre_small_KernelIdeal)
    ∧ quiescent_ReferenceIdeal (hReferenceIdeal := hReferenceIdeal)
    ∧ quiescent_ReferenceIdeal_pre_small_ReferenceIdeal (hReferenceIdeal := hReferenceIdeal) (hPre_small_ReferenceIdeal := hPre_small_ReferenceIdeal)
    ∧ quiescent_PlainIdeal (hPlainIdeal := hPlainIdeal)
    ∧ preserves_Kernel_KernelIdeal
    ∧ algebraic_KernelIdeal_PlainIdeal (hKernelIdeal := hKernelIdeal) (hPlainIdeal := hPlainIdeal)
    ∧ algebraic_KernelIdeal_ReferenceIdeal_pre_small_KernelIdeal (hKernelIdeal := hKernelIdeal) (hReferenceIdeal := hReferenceIdeal) (hPre_small_KernelIdeal := hPre_small_KernelIdeal)
-- ==== Pre_small_KernelIdeal.lean ====
abbrev S2048x512 : Shape := ⟨2, ![2048, 512]⟩
abbrev S512x2048 : Shape := ⟨2, ![512, 2048]⟩
abbrev S2048x2048 : Shape := ⟨2, ![2048, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  dot_S2048x512_S512x2048_S2048x2048_1_0_0_1_n_n_wf : DotDims.WF S2048x512 S512x2048 S2048x2048 [1] [0] [0] [1] [] []

variable [Facts]

def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf
def fn {F : FTy → Type} [FloatOps F] (main_arg0 : FVec F S2048x512 .bf16) (main_arg1 : FVec F S512x2048 .bf16) : IVec S_ 1 :=
  let main_v0 : FVec F S2048x512 .f32 := (extf .f32 · bitsLt_bf16_f32) main_arg0
  let main_v1 : FVec F S512x2048 .f32 := (extf .f32 · bitsLt_bf16_f32) main_arg1
  let main_v2 : FVec F S2048x2048 .f32 := (fun l r => Host.dotGeneral dot_S2048x512_S512x2048_S2048x2048_1_0_0_1_n_n none l r) main_v0 main_v1
  let main_v3 : FVec F S2048x2048 .f32 := Host.absf main_v2
  let main_cst : FVec F S_ .f32 := constant S_ .f32 0x41700000#32
  let main_v4 : FVec F S2048x2048 .f32 := broadcastInDim S2048x2048 ![] bcast_S_S2048x2048 main_cst
  let main_v5 : IVec S2048x2048 1 := cmpf .ole main_v3 main_v4
  let main_c : IVec S_ 1 := constantI S_ 1 1#1
  let main_v6 : IVec S_ 1 := (fun x v => Host.reduce IntOp.andi x v reducesTo_S2048x2048_S_d0_1 h_S_) main_v5 main_c
  main_v6
-- ==== Pre_small_ReferenceIdeal.lean ====
abbrev S2048x2048 : Shape := ⟨2, ![2048, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .bf16) (main_arg1 : FVec F S2048x2048 .bf16) : IVec S_ 1 :=
  let main_v0 : FVec F S2048x2048 .f32 := (extf .f32 · bitsLt_bf16_f32) main_arg0
  let main_v1 : FVec F S2048x2048 .f32 := (extf .f32 · bitsLt_bf16_f32) main_arg1
  let main_v2 : FVec F S2048x2048 .f32 := (fun l r => Host.dotGeneral dot_S2048x2048_S2048x2048_S2048x2048_1_0_0_1_n_n none l r) main_v0 main_v1
  let main_v3 : FVec F S2048x2048 .f32 := Host.absf main_v2
  let main_cst : FVec F S_ .f32 := constant S_ .f32 0x41700000#32
  let main_v4 : FVec F S2048x2048 .f32 := broadcastInDim S2048x2048 ![] bcast_S_S2048x2048 main_cst
  let main_v5 : IVec S2048x2048 1 := cmpf .ole main_v3 main_v4
  let main_c : IVec S_ 1 := constantI S_ 1 1#1
  let main_v6 : IVec S_ 1 := (fun x v => Host.reduce IntOp.andi x v reducesTo_S2048x2048_S_d0_1 h_S_) main_v5 main_c
  main_v6
-- ==== Kernel.lean ====
abbrev S2048x512 : Shape := ⟨2, ![2048, 512]⟩
abbrev S512x2048 : Shape := ⟨2, ![512, 2048]⟩
abbrev S2048x2048 : Shape := ⟨2, ![2048, 2048]⟩
abbrev S16x512x256 : Shape := ⟨3, ![16, 512, 256]⟩
abbrev S24x512x256 : Shape := ⟨3, ![24, 512, 256]⟩
abbrev S24 : Shape := ⟨1, ![24]⟩
abbrev S16 : Shape := ⟨1, ![16]⟩
abbrev S_ : Shape := ⟨0, ![]⟩
abbrev S512x512 : Shape := ⟨2, ![512, 512]⟩
abbrev S512x256 : Shape := ⟨2, ![512, 256]⟩
abbrev S1x512x256 : Shape := ⟨3, ![1, 512, 256]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x2048, .bf16⟩
  | .local _ .vmem, ⟨0, _⟩ => ⟨S2048x512, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S16x512x256, .bf16⟩
  | .local _ .vmem, ⟨5, _⟩ => ⟨S16x512x256, .bf16⟩
  | .local _ .vmem, ⟨6, _⟩ => ⟨S24x512x256, .bf16⟩
  | .local _ .vmem, ⟨7, _⟩ => ⟨S24x512x256, .bf16⟩
  | _, _ => ⟨S2048x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_4 : BitVec 32 := 1#32
  let v8 : BitVec 32 := Scalar.muli v6 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_6 : BitVec 32 := 1#32
  let v10 : BitVec 32 := Scalar.muli v4 c1_i32_6
  let v11 : BitVec 32 := Scalar.addi c0_i32_7 v10
  v11.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v17 : BitVec 32 := Scalar.muli v2 c512_i32
  let v18 : Index := Scalar.indexCast v17
  let c0_11 : Index := 0#32
  ![v18.toNat, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_21 : BitVec 32 := 1#32
  let v27 : BitVec 32 := Scalar.muli v4 c1_i32_21
  let v28 : BitVec 32 := Scalar.addi c0_i32_22 v27
  v28.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_36 : BitVec 32 := 1#32
  let v43 : BitVec 32 := Scalar.muli v6 c1_i32_36
  let v44 : BitVec 32 := Scalar.addi c0_i32_37 v43
  v44.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_50 : BitVec 32 := 1#32
  let v59 : BitVec 32 := Scalar.muli v4 c1_i32_50
  let v60 : BitVec 32 := Scalar.addi c0_i32_51 v59
  v60.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_65 : BitVec 32 := 1#32
  let v75 : BitVec 32 := Scalar.muli v6 c1_i32_65
  let v76 : BitVec 32 := Scalar.addi c0_i32_66 v75
  v76.toNat
def k0_dev7 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_79 : BitVec 32 := 1#32
  let v91 : BitVec 32 := Scalar.muli v4 c1_i32_79
  let v92 : BitVec 32 := Scalar.addi c0_i32_80 v91
  v92.toNat
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_94 : BitVec 32 := 1#32
  let v107 : BitVec 32 := Scalar.muli v6 c1_i32_94
  let v108 : BitVec 32 := Scalar.addi c0_i32_95 v107
  v108.toNat
def k0_dev9 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_108 : BitVec 32 := 1#32
  let v123 : BitVec 32 := Scalar.muli v4 c1_i32_108
  let v124 : BitVec 32 := Scalar.addi c0_i32_109 v123
  v124.toNat
def k0_dev10 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_123 : BitVec 32 := 1#32
  let v139 : BitVec 32 := Scalar.muli v6 c1_i32_123
  let v140 : BitVec 32 := Scalar.addi c0_i32_124 v139
  v140.toNat
def k0_off2 (d0 : Dev nD) (c_m1_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v149 : BitVec 32 := Scalar.addi v2 c_m1_i32
  let c4_i32_129 : BitVec 32 := 4#32
  let v150 : BitVec 32 := Scalar.addi v149 c4_i32_129
  let c4_i32_130 : BitVec 32 := 4#32
  let v151 : BitVec 32 := Scalar.remsi v150 c4_i32_130
  let c512_i32_131 : BitVec 32 := 512#32
  let v152 : BitVec 32 := Scalar.muli v151 c512_i32_131
  let v153 : Index := Scalar.indexCast v152
  let c0_132 : Index := 0#32
  ![v153.toNat, 0]
def k0_off2_at (r : Fin 3) : BitVec 32 :=
  if r.val < 1 then
    4294967295#32
  else
    if r.val < 2 then
      1#32
    else
      2#32
def k0_off3 (d0 : Dev nD) (c_m1_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v149 : BitVec 32 := Scalar.addi v2 c_m1_i32
  let c4_i32_129 : BitVec 32 := 4#32
  let v150 : BitVec 32 := Scalar.addi v149 c4_i32_129
  let c4_i32_130 : BitVec 32 := 4#32
  let v151 : BitVec 32 := Scalar.remsi v150 c4_i32_130
  let c512_i32_136 : BitVec 32 := 512#32
  let v159 : BitVec 32 := Scalar.muli v151 c512_i32_136
  let v160 : Index := Scalar.indexCast v159
  let c0_137 : Index := 0#32
  ![v160.toNat, 0]
def k0_off3_at (r : Fin 3) : BitVec 32 :=
  if r.val < 1 then
    4294967295#32
  else
    if r.val < 2 then
      1#32
    else
      2#32
def k0_off4 (d0 : Dev nD) (c_m1_i32_158 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v194 : BitVec 32 := Scalar.addi v2 c_m1_i32_158
  let c4_i32_159 : BitVec 32 := 4#32
  let v195 : BitVec 32 := Scalar.addi v194 c4_i32_159
  let c4_i32_160 : BitVec 32 := 4#32
  let v196 : BitVec 32 := Scalar.remsi v195 c4_i32_160
  let c512_i32_183 : BitVec 32 := 512#32
  let v217 : BitVec 32 := Scalar.muli v196 c512_i32_183
  let v218 : Index := Scalar.indexCast v217
  let c0_184 : Index := 0#32
  ![v218.toNat, 0]
def k0_off4_at (r : Fin 3) : BitVec 32 :=
  if r.val < 1 then
    4294967295#32
  else
    if r.val < 2 then
      2#32
    else
      1#32
def k0_dev11 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_191 : BitVec 32 := 1#32
  let v226 : BitVec 32 := Scalar.muli v4 c1_i32_191
  let v227 : BitVec 32 := Scalar.addi c0_i32_192 v226
  v227.toNat
def k0_off5 (d0 : Dev nD) (c1_i32_161 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v197 : BitVec 32 := Scalar.addi v2 c1_i32_161
  let c4_i32_162 : BitVec 32 := 4#32
  let v198 : BitVec 32 := Scalar.addi v197 c4_i32_162
  let c4_i32_163 : BitVec 32 := 4#32
  let v199 : BitVec 32 := Scalar.remsi v198 c4_i32_163
  let c512_i32_210 : BitVec 32 := 512#32
  let v247 : BitVec 32 := Scalar.muli v199 c512_i32_210
  let v248 : Index := Scalar.indexCast v247
  let c1024_211 : Index := 1024#32
  ![v248.toNat, 1024]
def k0_off5_at (r : Fin 3) : BitVec 32 :=
  if r.val < 1 then
    1#32
  else
    if r.val < 2 then
      2#32
    else
      4294967295#32
def k0_dev12 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_219 : BitVec 32 := 1#32
  let v256 : BitVec 32 := Scalar.muli v6 c1_i32_219
  let v257 : BitVec 32 := Scalar.addi c0_i32_220 v256
  v257.toNat
def k0_off6 (d0 : Dev nD) (c_m1_i32_158 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v194 : BitVec 32 := Scalar.addi v2 c_m1_i32_158
  let c4_i32_159 : BitVec 32 := 4#32
  let v195 : BitVec 32 := Scalar.addi v194 c4_i32_159
  let c4_i32_160 : BitVec 32 := 4#32
  let v196 : BitVec 32 := Scalar.remsi v195 c4_i32_160
  let c512_i32_238 : BitVec 32 := 512#32
  let v277 : BitVec 32 := Scalar.muli v196 c512_i32_238
  let v278 : Index := Scalar.indexCast v277
  let c256_239 : Index := 256#32
  ![v278.toNat, 256]
def k0_off6_at (r : Fin 3) : BitVec 32 :=
  if r.val < 1 then
    4294967295#32
  else
    if r.val < 2 then
      2#32
    else
      1#32
def k0_dev13 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_245 : BitVec 32 := 1#32
  let v286 : BitVec 32 := Scalar.muli v4 c1_i32_245
  let v287 : BitVec 32 := Scalar.addi c0_i32_246 v286
  v287.toNat
def k0_off7 (d0 : Dev nD) (c1_i32_161 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v197 : BitVec 32 := Scalar.addi v2 c1_i32_161
  let c4_i32_162 : BitVec 32 := 4#32
  let v198 : BitVec 32 := Scalar.addi v197 c4_i32_162
  let c4_i32_163 : BitVec 32 := 4#32
  let v199 : BitVec 32 := Scalar.remsi v198 c4_i32_163
  let c512_i32_264 : BitVec 32 := 512#32
  let v307 : BitVec 32 := Scalar.muli v199 c512_i32_264
  let v308 : Index := Scalar.indexCast v307
  let c1280_265 : Index := 1280#32
  ![v308.toNat, 1280]
def k0_off7_at (r : Fin 3) : BitVec 32 :=
  if r.val < 1 then
    1#32
  else
    if r.val < 2 then
      2#32
    else
      4294967295#32
def k0_dev14 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_273 : BitVec 32 := 1#32
  let v316 : BitVec 32 := Scalar.muli v6 c1_i32_273
  let v317 : BitVec 32 := Scalar.addi c0_i32_274 v316
  v317.toNat
def k0_off8 (d0 : Dev nD) (c_m1_i32_158 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v194 : BitVec 32 := Scalar.addi v2 c_m1_i32_158
  let c4_i32_159 : BitVec 32 := 4#32
  let v195 : BitVec 32 := Scalar.addi v194 c4_i32_159
  let c4_i32_160 : BitVec 32 := 4#32
  let v196 : BitVec 32 := Scalar.remsi v195 c4_i32_160
  let c512_i32_292 : BitVec 32 := 512#32
  let v337 : BitVec 32 := Scalar.muli v196 c512_i32_292
  let v338 : Index := Scalar.indexCast v337
  let c512_293 : Index := 512#32
  ![v338.toNat, 512]
def k0_off8_at (r : Fin 3) : BitVec 32 :=
  if r.val < 1 then
    4294967295#32
  else
    if r.val < 2 then
      2#32
    else
      1#32
def k0_dev15 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_299 : BitVec 32 := 1#32
  let v346 : BitVec 32 := Scalar.muli v4 c1_i32_299
  let v347 : BitVec 32 := Scalar.addi c0_i32_300 v346
  v347.toNat
def k0_off9 (d0 : Dev nD) (c1_i32_161 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v197 : BitVec 32 := Scalar.addi v2 c1_i32_161
  let c4_i32_162 : BitVec 32 := 4#32
  let v198 : BitVec 32 := Scalar.addi v197 c4_i32_162
  let c4_i32_163 : BitVec 32 := 4#32
  let v199 : BitVec 32 := Scalar.remsi v198 c4_i32_163
  let c512_i32_318 : BitVec 32 := 512#32
  let v367 : BitVec 32 := Scalar.muli v199 c512_i32_318
  let v368 : Index := Scalar.indexCast v367
  let c1536_319 : Index := 1536#32
  ![v368.toNat, 1536]
def k0_off9_at (r : Fin 3) : BitVec 32 :=
  if r.val < 1 then
    1#32
  else
    if r.val < 2 then
      2#32
    else
      4294967295#32
def k0_dev16 (d0 : Dev nD) : Nat :=
  let c0_i32_328 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_327 : BitVec 32 := 1#32
  let v376 : BitVec 32 := Scalar.muli v6 c1_i32_327
  let v377 : BitVec 32 := Scalar.addi c0_i32_328 v376
  v377.toNat
def k0_off10 (d0 : Dev nD) (c_m1_i32_158 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v194 : BitVec 32 := Scalar.addi v2 c_m1_i32_158
  let c4_i32_159 : BitVec 32 := 4#32
  let v195 : BitVec 32 := Scalar.addi v194 c4_i32_159
  let c4_i32_160 : BitVec 32 := 4#32
  let v196 : BitVec 32 := Scalar.remsi v195 c4_i32_160
  let c512_i32_346 : BitVec 32 := 512#32
  let v397 : BitVec 32 := Scalar.muli v196 c512_i32_346
  let v398 : Index := Scalar.indexCast v397
  let c768_347 : Index := 768#32
  ![v398.toNat, 768]
def k0_off10_at (r : Fin 3) : BitVec 32 :=
  if r.val < 1 then
    4294967295#32
  else
    if r.val < 2 then
      2#32
    else
      1#32
def k0_dev17 (d0 : Dev nD) : Nat :=
  let c0_i32_354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_353 : BitVec 32 := 1#32
  let v406 : BitVec 32 := Scalar.muli v4 c1_i32_353
  let v407 : BitVec 32 := Scalar.addi c0_i32_354 v406
  v407.toNat
def k0_off11 (d0 : Dev nD) (c1_i32_161 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v197 : BitVec 32 := Scalar.addi v2 c1_i32_161
  let c4_i32_162 : BitVec 32 := 4#32
  let v198 : BitVec 32 := Scalar.addi v197 c4_i32_162
  let c4_i32_163 : BitVec 32 := 4#32
  let v199 : BitVec 32 := Scalar.remsi v198 c4_i32_163
  let c512_i32_372 : BitVec 32 := 512#32
  let v427 : BitVec 32 := Scalar.muli v199 c512_i32_372
  let v428 : Index := Scalar.indexCast v427
  let c1792_373 : Index := 1792#32
  ![v428.toNat, 1792]
def k0_off11_at (r : Fin 3) : BitVec 32 :=
  if r.val < 1 then
    1#32
  else
    if r.val < 2 then
      2#32
    else
      4294967295#32
def k0_dev18 (d0 : Dev nD) : Nat :=
  let c0_i32_382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_381 : BitVec 32 := 1#32
  let v436 : BitVec 32 := Scalar.muli v6 c1_i32_381
  let v437 : BitVec 32 := Scalar.addi c0_i32_382 v436
  v437.toNat
def k0_dev19 (d0 : Dev nD) : Nat :=
  let c0_i32_408 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_407 : BitVec 32 := 1#32
  let v466 : BitVec 32 := Scalar.muli v4 c1_i32_407
  let v467 : BitVec 32 := Scalar.addi c0_i32_408 v466
  v467.toNat
def k0_dev20 (d0 : Dev nD) : Nat :=
  let c0_i32_436 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_435 : BitVec 32 := 1#32
  let v496 : BitVec 32 := Scalar.muli v6 c1_i32_435
  let v497 : BitVec 32 := Scalar.addi c0_i32_436 v496
  v497.toNat
def k0_dev21 (d0 : Dev nD) : Nat :=
  let c0_i32_462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_461 : BitVec 32 := 1#32
  let v526 : BitVec 32 := Scalar.muli v4 c1_i32_461
  let v527 : BitVec 32 := Scalar.addi c0_i32_462 v526
  v527.toNat
def k0_dev22 (d0 : Dev nD) : Nat :=
  let c0_i32_490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_489 : BitVec 32 := 1#32
  let v556 : BitVec 32 := Scalar.muli v6 c1_i32_489
  let v557 : BitVec 32 := Scalar.addi c0_i32_490 v556
  v557.toNat
def k0_dev23 (d0 : Dev nD) : Nat :=
  let c0_i32_516 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_515 : BitVec 32 := 1#32
  let v586 : BitVec 32 := Scalar.muli v4 c1_i32_515
  let v587 : BitVec 32 := Scalar.addi c0_i32_516 v586
  v587.toNat
def k0_dev24 (d0 : Dev nD) : Nat :=
  let c0_i32_544 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_543 : BitVec 32 := 1#32
  let v616 : BitVec 32 := Scalar.muli v6 c1_i32_543
  let v617 : BitVec 32 := Scalar.addi c0_i32_544 v616
  v617.toNat
def k0_dev25 (d0 : Dev nD) : Nat :=
  let c0_i32_570 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_569 : BitVec 32 := 1#32
  let v646 : BitVec 32 := Scalar.muli v4 c1_i32_569
  let v647 : BitVec 32 := Scalar.addi c0_i32_570 v646
  v647.toNat
def k0_dev26 (d0 : Dev nD) : Nat :=
  let c0_i32_598 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_597 : BitVec 32 := 1#32
  let v676 : BitVec 32 := Scalar.muli v6 c1_i32_597
  let v677 : BitVec 32 := Scalar.addi c0_i32_598 v676
  v677.toNat
def k0_dev27 (d0 : Dev nD) : Nat :=
  let c0_i32_630 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_629 : BitVec 32 := 1#32
  let v717 : BitVec 32 := Scalar.muli v4 c1_i32_629
  let v718 : BitVec 32 := Scalar.addi c0_i32_630 v717
  v718.toNat
def k0_off12 (d0 : Dev nD) (c1_i32_635 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v727 : BitVec 32 := Scalar.addi v2 c1_i32_635
  let c4_i32_636 : BitVec 32 := 4#32
  let v728 : BitVec 32 := Scalar.addi v727 c4_i32_636
  let c4_i32_637 : BitVec 32 := 4#32
  let v729 : BitVec 32 := Scalar.remsi v728 c4_i32_637
  let c512_i32_638 : BitVec 32 := 512#32
  let v730 : BitVec 32 := Scalar.muli v729 c512_i32_638
  let c0_i32_641 : BitVec 32 := 0#32
  ![v730.toNat, 0]
def k0_off12_at (r : Fin 4) : BitVec 32 :=
  if r.val < 2 then
    if r.val < 1 then
      1#32
    else
      0#32
  else
    if r.val < 3 then
      4294967295#32
    else
      4294967294#32
def k0_dev28 (d0 : Dev nD) : Nat :=
  let c0_i32_673 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_672 : BitVec 32 := 1#32
  let v767 : BitVec 32 := Scalar.muli v6 c1_i32_672
  let v768 : BitVec 32 := Scalar.addi c0_i32_673 v767
  v768.toNat
def k0_off13 (d0 : Dev nD) (c_m1_i32_678 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v777 : BitVec 32 := Scalar.addi v2 c_m1_i32_678
  let c4_i32_679 : BitVec 32 := 4#32
  let v778 : BitVec 32 := Scalar.addi v777 c4_i32_679
  let c4_i32_680 : BitVec 32 := 4#32
  let v779 : BitVec 32 := Scalar.remsi v778 c4_i32_680
  let c512_i32_681 : BitVec 32 := 512#32
  let v780 : BitVec 32 := Scalar.muli v779 c512_i32_681
  let c1024_i32 : BitVec 32 := 1024#32
  ![v780.toNat, 1024]
def k0_off13_at (r : Fin 4) : BitVec 32 :=
  if r.val < 2 then
    if r.val < 1 then
      4294967295#32
    else
      0#32
  else
    if r.val < 3 then
      1#32
    else
      2#32
def k0_dev29 (d0 : Dev nD) : Nat :=
  let c0_i32_713 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_712 : BitVec 32 := 1#32
  let v817 : BitVec 32 := Scalar.muli v4 c1_i32_712
  let v818 : BitVec 32 := Scalar.addi c0_i32_713 v817
  v818.toNat
def k0_off14 (d0 : Dev nD) (c1_i32_718 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v827 : BitVec 32 := Scalar.addi v2 c1_i32_718
  let c4_i32_719 : BitVec 32 := 4#32
  let v828 : BitVec 32 := Scalar.addi v827 c4_i32_719
  let c4_i32_720 : BitVec 32 := 4#32
  let v829 : BitVec 32 := Scalar.remsi v828 c4_i32_720
  let c512_i32_721 : BitVec 32 := 512#32
  let v830 : BitVec 32 := Scalar.muli v829 c512_i32_721
  let c256_i32 : BitVec 32 := 256#32
  ![v830.toNat, 256]
def k0_off14_at (r : Fin 4) : BitVec 32 :=
  if r.val < 2 then
    if r.val < 1 then
      1#32
    else
      0#32
  else
    if r.val < 3 then
      4294967295#32
    else
      4294967294#32
def k0_dev30 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_754 : BitVec 32 := 1#32
  let v867 : BitVec 32 := Scalar.muli v6 c1_i32_754
  let v868 : BitVec 32 := Scalar.addi c0_i32_755 v867
  v868.toNat
def k0_off15 (d0 : Dev nD) (c_m1_i32_760 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v877 : BitVec 32 := Scalar.addi v2 c_m1_i32_760
  let c4_i32_761 : BitVec 32 := 4#32
  let v878 : BitVec 32 := Scalar.addi v877 c4_i32_761
  let c4_i32_762 : BitVec 32 := 4#32
  let v879 : BitVec 32 := Scalar.remsi v878 c4_i32_762
  let c512_i32_763 : BitVec 32 := 512#32
  let v880 : BitVec 32 := Scalar.muli v879 c512_i32_763
  let c1280_i32 : BitVec 32 := 1280#32
  ![v880.toNat, 1280]
def k0_off15_at (r : Fin 4) : BitVec 32 :=
  if r.val < 2 then
    if r.val < 1 then
      4294967295#32
    else
      0#32
  else
    if r.val < 3 then
      1#32
    else
      2#32
def k0_dev31 (d0 : Dev nD) : Nat :=
  let c0_i32_795 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_794 : BitVec 32 := 1#32
  let v917 : BitVec 32 := Scalar.muli v4 c1_i32_794
  let v918 : BitVec 32 := Scalar.addi c0_i32_795 v917
  v918.toNat
def k0_off16 (d0 : Dev nD) (c1_i32_800 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v927 : BitVec 32 := Scalar.addi v2 c1_i32_800
  let c4_i32_801 : BitVec 32 := 4#32
  let v928 : BitVec 32 := Scalar.addi v927 c4_i32_801
  let c4_i32_802 : BitVec 32 := 4#32
  let v929 : BitVec 32 := Scalar.remsi v928 c4_i32_802
  let c512_i32_803 : BitVec 32 := 512#32
  let v930 : BitVec 32 := Scalar.muli v929 c512_i32_803
  let c512_i32_806 : BitVec 32 := 512#32
  ![v930.toNat, 512]
def k0_off16_at (r : Fin 4) : BitVec 32 :=
  if r.val < 2 then
    if r.val < 1 then
      1#32
    else
      0#32
  else
    if r.val < 3 then
      4294967295#32
    else
      4294967294#32
def k0_dev32 (d0 : Dev nD) : Nat :=
  let c0_i32_838 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_837 : BitVec 32 := 1#32
  let v967 : BitVec 32 := Scalar.muli v6 c1_i32_837
  let v968 : BitVec 32 := Scalar.addi c0_i32_838 v967
  v968.toNat
def k0_off17 (d0 : Dev nD) (c_m1_i32_843 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v977 : BitVec 32 := Scalar.addi v2 c_m1_i32_843
  let c4_i32_844 : BitVec 32 := 4#32
  let v978 : BitVec 32 := Scalar.addi v977 c4_i32_844
  let c4_i32_845 : BitVec 32 := 4#32
  let v979 : BitVec 32 := Scalar.remsi v978 c4_i32_845
  let c512_i32_846 : BitVec 32 := 512#32
  let v980 : BitVec 32 := Scalar.muli v979 c512_i32_846
  let c1536_i32 : BitVec 32 := 1536#32
  ![v980.toNat, 1536]
def k0_off17_at (r : Fin 4) : BitVec 32 :=
  if r.val < 2 then
    if r.val < 1 then
      4294967295#32
    else
      0#32
  else
    if r.val < 3 then
      1#32
    else
      2#32
def k0_dev33 (d0 : Dev nD) : Nat :=
  let c0_i32_878 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_877 : BitVec 32 := 1#32
  let v1017 : BitVec 32 := Scalar.muli v4 c1_i32_877
  let v1018 : BitVec 32 := Scalar.addi c0_i32_878 v1017
  v1018.toNat
def k0_off18 (d0 : Dev nD) (c1_i32_883 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1027 : BitVec 32 := Scalar.addi v2 c1_i32_883
  let c4_i32_884 : BitVec 32 := 4#32
  let v1028 : BitVec 32 := Scalar.addi v1027 c4_i32_884
  let c4_i32_885 : BitVec 32 := 4#32
  let v1029 : BitVec 32 := Scalar.remsi v1028 c4_i32_885
  let c512_i32_886 : BitVec 32 := 512#32
  let v1030 : BitVec 32 := Scalar.muli v1029 c512_i32_886
  let c768_i32 : BitVec 32 := 768#32
  ![v1030.toNat, 768]
def k0_off18_at (r : Fin 4) : BitVec 32 :=
  if r.val < 2 then
    if r.val < 1 then
      1#32
    else
      0#32
  else
    if r.val < 3 then
      4294967295#32
    else
      4294967294#32
def k0_dev34 (d0 : Dev nD) : Nat :=
  let c0_i32_920 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_919 : BitVec 32 := 1#32
  let v1067 : BitVec 32 := Scalar.muli v6 c1_i32_919
  let v1068 : BitVec 32 := Scalar.addi c0_i32_920 v1067
  v1068.toNat
def k0_off19 (d0 : Dev nD) (c_m1_i32_925 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1077 : BitVec 32 := Scalar.addi v2 c_m1_i32_925
  let c4_i32_926 : BitVec 32 := 4#32
  let v1078 : BitVec 32 := Scalar.addi v1077 c4_i32_926
  let c4_i32_927 : BitVec 32 := 4#32
  let v1079 : BitVec 32 := Scalar.remsi v1078 c4_i32_927
  let c512_i32_928 : BitVec 32 := 512#32
  let v1080 : BitVec 32 := Scalar.muli v1079 c512_i32_928
  let c1792_i32 : BitVec 32 := 1792#32
  ![v1080.toNat, 1792]
def k0_off19_at (r : Fin 4) : BitVec 32 :=
  if r.val < 2 then
    if r.val < 1 then
      4294967295#32
    else
      0#32
  else
    if r.val < 3 then
      1#32
    else
      2#32
def k0_dev35 (d0 : Dev nD) : Nat :=
  let c0_i32_947 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_946 : BitVec 32 := 1#32
  let v1094 : BitVec 32 := Scalar.muli v4 c1_i32_946
  let v1095 : BitVec 32 := Scalar.addi c0_i32_947 v1094
  v1095.toNat
def k0_dev36 (d0 : Dev nD) : Nat :=
  let c0_i32_976 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_975 : BitVec 32 := 1#32
  let v1121 : BitVec 32 := Scalar.muli v6 c1_i32_975
  let v1122 : BitVec 32 := Scalar.addi c0_i32_976 v1121
  v1122.toNat
def k0_dev37 (d0 : Dev nD) : Nat :=
  let c0_i32_1004 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1003 : BitVec 32 := 1#32
  let v1148 : BitVec 32 := Scalar.muli v4 c1_i32_1003
  let v1149 : BitVec 32 := Scalar.addi c0_i32_1004 v1148
  v1149.toNat
def k0_dev38 (d0 : Dev nD) : Nat :=
  let c0_i32_1033 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_1032 : BitVec 32 := 1#32
  let v1175 : BitVec 32 := Scalar.muli v6 c1_i32_1032
  let v1176 : BitVec 32 := Scalar.addi c0_i32_1033 v1175
  v1176.toNat
def k0_dev39 (d0 : Dev nD) : Nat :=
  let c0_i32_1061 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1060 : BitVec 32 := 1#32
  let v1202 : BitVec 32 := Scalar.muli v4 c1_i32_1060
  let v1203 : BitVec 32 := Scalar.addi c0_i32_1061 v1202
  v1203.toNat
def k0_dev40 (d0 : Dev nD) : Nat :=
  let c0_i32_1090 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_1089 : BitVec 32 := 1#32
  let v1229 : BitVec 32 := Scalar.muli v6 c1_i32_1089
  let v1230 : BitVec 32 := Scalar.addi c0_i32_1090 v1229
  v1230.toNat
def k0_dev41 (d0 : Dev nD) : Nat :=
  let c0_i32_1118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1117 : BitVec 32 := 1#32
  let v1256 : BitVec 32 := Scalar.muli v4 c1_i32_1117
  let v1257 : BitVec 32 := Scalar.addi c0_i32_1118 v1256
  v1257.toNat
def k0_dev42 (d0 : Dev nD) : Nat :=
  let c0_i32_1147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_1146 : BitVec 32 := 1#32
  let v1283 : BitVec 32 := Scalar.muli v6 c1_i32_1146
  let v1284 : BitVec 32 := Scalar.addi c0_i32_1147 v1283
  v1284.toNat
def k0_dev43 (d0 : Dev nD) : Nat :=
  let c0_i32_1175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1174 : BitVec 32 := 1#32
  let v1310 : BitVec 32 := Scalar.muli v4 c1_i32_1174
  let v1311 : BitVec 32 := Scalar.addi c0_i32_1175 v1310
  v1311.toNat
def k0_dev44 (d0 : Dev nD) : Nat :=
  let c0_i32_1204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_1203 : BitVec 32 := 1#32
  let v1337 : BitVec 32 := Scalar.muli v6 c1_i32_1203
  let v1338 : BitVec 32 := Scalar.addi c0_i32_1204 v1337
  v1338.toNat
def k0_dev45 (d0 : Dev nD) : Nat :=
  let c0_i32_1232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1231 : BitVec 32 := 1#32
  let v1364 : BitVec 32 := Scalar.muli v4 c1_i32_1231
  let v1365 : BitVec 32 := Scalar.addi c0_i32_1232 v1364
  v1365.toNat
def k0_dev46 (d0 : Dev nD) : Nat :=
  let c0_i32_1261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_1260 : BitVec 32 := 1#32
  let v1391 : BitVec 32 := Scalar.muli v6 c1_i32_1260
  let v1392 : BitVec 32 := Scalar.addi c0_i32_1261 v1391
  v1392.toNat
def k0_dev47 (d0 : Dev nD) : Nat :=
  let c0_i32_1289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1288 : BitVec 32 := 1#32
  let v1418 : BitVec 32 := Scalar.muli v4 c1_i32_1288
  let v1419 : BitVec 32 := Scalar.addi c0_i32_1289 v1418
  v1419.toNat
def k0_dev48 (d0 : Dev nD) : Nat :=
  let c0_i32_1318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_1317 : BitVec 32 := 1#32
  let v1445 : BitVec 32 := Scalar.muli v6 c1_i32_1317
  let v1446 : BitVec 32 := Scalar.addi c0_i32_1318 v1445
  v1446.toNat
def k0_dev49 (d0 : Dev nD) : Nat :=
  let c0_i32_1346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1345 : BitVec 32 := 1#32
  let v1472 : BitVec 32 := Scalar.muli v4 c1_i32_1345
  let v1473 : BitVec 32 := Scalar.addi c0_i32_1346 v1472
  v1473.toNat
def k0_dev50 (d0 : Dev nD) : Nat :=
  let c0_i32_1375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_1374 : BitVec 32 := 1#32
  let v1499 : BitVec 32 := Scalar.muli v6 c1_i32_1374
  let v1500 : BitVec 32 := Scalar.addi c0_i32_1375 v1499
  v1500.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== PlainIdeal.lean ====
abbrev S2048x2048 : Shape := ⟨2, ![2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Body.lean ====
/- The kernel's body written once over the direction of travel and the number of a slot.

   `cc0_body` is printed as 4541 statements in 76 windows. Here the same sequence of memory
   operations is five kinds of step, each over a direction `b` (`false` to the next device, `true`
   to the previous one) and a slot number, and `body_eq` says that it is the printed body. -/
module

public import proofs.«01_k».proof.Proof.Gen.KernelIdeal.Points
public import proofs.«01_k».proof.Proof.Gen.KernelIdeal.Skeleton
public import Idealize.ShloMosaic.Lib.Pipeline.Regions

@[expose] public section

noncomputable section

namespace Cert.KernelIdeal.Own

open Cert.KernelIdeal Cert.KernelIdeal.Gen
open Idealize.ShloMosaic Idealize.SL.Sem

variable {F : FTy → Type} [FloatOps F]

/-! ## Slots, semaphores and offsets by number -/

/-- One slot of sixteen lies inside the send buffer. -/
theorem inb16 : ∀ j : Fin 16, ∀ a, (![j.val, 0, 0] : Fin 3 → Nat) a + S1x512x256.size a ≤ S16x512x256.size a := by decide
/-- One slot of twenty-four lies inside the receive buffer. -/
theorem inb24 : ∀ j : Fin 24, ∀ a, (![j.val, 0, 0] : Fin 3 → Nat) a + S1x512x256.size a ≤ S24x512x256.size a := by decide

/-- The rectangle of slot `j` of a send buffer. -/
abbrev rect16 (j : Fin 16) : Rect S16x512x256 := Rect.unit (s := S16x512x256) ![j.val, 0, 0] S1x512x256.size (inb16 j)
/-- The rectangle of slot `j` of a receive buffer. -/
abbrev rect24 (j : Fin 24) : Rect S24x512x256 := Rect.unit (s := S24x512x256) ![j.val, 0, 0] S1x512x256.size (inb24 j)

/-- A send slot's rows are whole packed rows. -/
theorem packed16 : ∀ j : Fin 16, (rect16 j).PackedRows (EltTy.packing .bf16) := by decide
/-- A send slot is whole words. -/
theorem words16 : ∀ j : Fin 16, (rect16 j).WholeWords (EltTy.packing .bf16) := by decide
/-- A receive slot is whole words. -/
theorem words24 : ∀ j : Fin 24, (rect24 j).WholeWords (EltTy.packing .bf16) := by decide

/-- The send buffer of a direction. -/
abbrev sRef (b : Bool) : Ref sig .tc := match b with | false => cc0_scratch2 | true => cc0_scratch3
/-- The send buffer of a direction, whole. -/
abbrev sBuf (b : Bool) : Memref sig .tc .vmem S16x512x256 .bf16 :=
  match b with | false => Memref.whole cc0_scratch2 | true => Memref.whole cc0_scratch3
/-- The receive buffer of a direction, whole. -/
abbrev rBuf (b : Bool) : Memref sig .tc .vmem S24x512x256 .bf16 :=
  match b with | false => Memref.whole cc0_scratch4 | true => Memref.whole cc0_scratch5

/-- A send buffer is a whole buffer. -/
theorem sBuf_whole (b : Bool) : (sBuf b).IsWhole := by cases b <;> exact Memref.isWhole_whole _
/-- A receive buffer is a whole buffer. -/
theorem rBuf_whole (b : Bool) : (rBuf b).IsWhole := by cases b <;> exact Memref.isWhole_whole _

/-- Slot `j` of a send buffer, with its leading axis. -/
abbrev sSl (b : Bool) (j : Fin 16) : Memref sig .tc .vmem S1x512x256 .bf16 := (sBuf b).slice (rect16 j) (fun _ => rfl)
/-- Slot `j` of a receive buffer, with its leading axis. -/
abbrev rSl (b : Bool) (j : Fin 24) : Memref sig .tc .vmem S1x512x256 .bf16 := (rBuf b).slice (rect24 j) (fun _ => rfl)
/-- Slot `j` of a send buffer as a copy names it. -/
abbrev sSq (b : Bool) (j : Fin 16) : Memref sig .tc .vmem S512x256 .bf16 := (sSl b j).squeeze S512x256 squeezes_S1x512x256_S512x256
/-- Slot `j` of a receive buffer as a copy names it. -/
abbrev rSq (b : Bool) (j : Fin 24) : Memref sig .tc .vmem S512x256 .bf16 := (rSl b j).squeeze S512x256 squeezes_S1x512x256_S512x256

/-- A send slot is whole words, as a copy names it. -/
theorem sSq_words (b : Bool) (j : Fin 16) : (sSq b j).view.WordExact :=
  ((sBuf_whole b).wordExact_slice rfl _ (words16 j)).reshape _ _
/-- A receive slot is whole words, as a copy names it. -/
theorem rSq_words (b : Bool) (j : Fin 24) : (rSq b j).view.WordExact :=
  ((rBuf_whole b).wordExact_slice rfl _ (words24 j)).reshape _ _

/-- The semaphore a device's own send from slot `k` credits. -/
abbrev sSem (b : Bool) (k : Fin 24) : DmaSem sig := ⟨(match b with | false => 2 | true => 50) + k.val, by cases b <;> simp <;> omega⟩
/-- The semaphore an arrival into slot `k` credits. -/
abbrev rSem (b : Bool) (k : Fin 24) : DmaSem sig := ⟨(match b with | false => 26 | true => 74) + k.val, by cases b <;> simp <;> omega⟩
/-- The semaphore the `t`-th copy to the result credits. -/
abbrev oSem (b : Bool) (t : Fin 16) : DmaSem sig := ⟨(match b with | false => 98 | true => 114) + t.val, by cases b <;> simp <;> omega⟩

/-- The first column of column block `s` of a direction. -/
abbrev colN (b : Bool) (s : Fin 4) : Nat := (match b with | false => 0 | true => 1024) + 256 * s.val

/-- The word that moves the device's number to the row block hop `h + 1` adds. -/
abbrev accW (b : Bool) (h : Fin 3) : BitVec 32 :=
  match b, h with
  | false, 0 => 4294967295#32 | false, 1 => 2#32 | false, 2 => 1#32
  | true, 0 => 1#32 | true, 1 => 2#32 | true, 2 => 4294967295#32
/-- The word that moves the device's number to the row block the `g`-th group of results lies in. -/
abbrev outW (b : Bool) (g : Fin 4) : BitVec 32 :=
  match b, g with
  | false, 0 => 1#32 | false, 1 => 0#32 | false, 2 => 4294967295#32 | false, 3 => 4294967294#32
  | true, 0 => 4294967295#32 | true, 1 => 0#32 | true, 2 => 1#32 | true, 3 => 2#32

/-- The row block hop `h + 1` adds: the device's number less `h + 1` to the next device, and plus it
    the other way. -/
def accRow (d : Dev nD) (b : Bool) (h : Fin 3) : Fin 4 :=
  match b with | false => ⟨(d.val + 3 - h.val) % 4, by omega⟩ | true => ⟨(d.val + 1 + h.val) % 4, by omega⟩
/-- The row block of the `g`-th group of results. -/
def outRow (d : Dev nD) (b : Bool) (g : Fin 4) : Fin 4 :=
  match b with | false => ⟨(d.val + 5 - g.val) % 4, by omega⟩ | true => ⟨(d.val + 3 + g.val) % 4, by omega⟩

/-- The offsets the kernel computes for a block of the accumulator, by direction and column block. -/
abbrev accAt (b : Bool) (s : Fin 4) : Dev nD → BitVec 32 → Fin 2 → Nat :=
  match b, s with
  | false, 0 => k0_off4 | false, 1 => k0_off6 | false, 2 => k0_off8 | false, 3 => k0_off10
  | true, 0 => k0_off5 | true, 1 => k0_off7 | true, 2 => k0_off9 | true, 3 => k0_off11
/-- The offsets the kernel computes for a block of the result, by direction and column block. -/
abbrev outAt (b : Bool) (s : Fin 4) : Dev nD → BitVec 32 → Fin 2 → Nat :=
  match b, s with
  | false, 0 => k0_off12 | false, 1 => k0_off14 | false, 2 => k0_off16 | false, 3 => k0_off18
  | true, 0 => k0_off13 | true, 1 => k0_off15 | true, 2 => k0_off17 | true, 3 => k0_off19

/-- The offsets computed for a block of the accumulator are its first row and column. -/
theorem accAt_eq : ∀ (d : Dev nD) (b : Bool) (h : Fin 3) (s : Fin 4),
    accAt b s d (accW b h) = ![512 * (accRow d b h).val, colN b s] := by decide +kernel
/-- The offsets computed for a block of the result are its first row and column. -/
theorem outAt_eq : ∀ (d : Dev nD) (b : Bool) (g s : Fin 4),
    outAt b s d (outW b g) = ![512 * (outRow d b g).val, colN b s] := by decide +kernel

/-- A 512 by 256 block of the accumulator lies inside it. -/
theorem accInb : ∀ (d : Dev nD) (b : Bool) (h : Fin 3) (s : Fin 4), ∀ a,
    (accAt b s d (accW b h)) a + S512x256.size a ≤ S2048x2048.size a := by decide +kernel
/-- A 512 by 256 block of the result lies inside it. -/
theorem outInb : ∀ (d : Dev nD) (b : Bool) (g s : Fin 4), ∀ a,
    (outAt b s d (outW b g)) a + S512x256.size a ≤ S2048x2048.size a := by decide +kernel
/-- A column block of the weights lies inside them. -/
theorem colInb : ∀ (b : Bool) (s : Fin 4), ∀ a,
    (![0, colN b s] : Fin 2 → Nat) a + S512x256.size a ≤ S512x2048.size a := by decide

/-- The block of the accumulator hop `h + 1` adds. -/
abbrev accRect (d : Dev nD) (b : Bool) (h : Fin 3) (s : Fin 4) : Rect S2048x2048 :=
  Rect.unit (s := S2048x2048) (accAt b s d (accW b h)) S512x256.size (accInb d b h s)
/-- The block of the result group `g` writes. -/
abbrev outRect (d : Dev nD) (b : Bool) (g s : Fin 4) : Rect S2048x2048 :=
  Rect.unit (s := S2048x2048) (outAt b s d (outW b g)) S512x256.size (outInb d b g s)
/-- A column block of the weights. -/
abbrev colRect (b : Bool) (s : Fin 4) : Rect S512x2048 :=
  Rect.unit (s := S512x2048) ![0, colN b s] S512x256.size (colInb b s)

/-- A block of the result is whole words. -/
theorem outRect_words : ∀ (d : Dev nD) (b : Bool) (g s : Fin 4), (outRect d b g s).WholeWords (EltTy.packing .bf16) := by
  decide +kernel

/-- Block `g`, `s` of the result. -/
abbrev oBlk (d : Dev nD) (b : Bool) (g s : Fin 4) : Memref sig .tc .hbm S512x256 .bf16 :=
  (Memref.whole main_v1 : Memref sig .tc .hbm S2048x2048 .bf16).slice (outRect d b g s) (fun _ => rfl)

/-- A block of the result is whole words, as a copy names it. -/
theorem oBlk_words (d : Dev nD) (b : Bool) (g s : Fin 4) : (oBlk d b g s).view.WordExact :=
  (show (Memref.whole main_v1 : Memref sig .tc .hbm S2048x2048 .bf16).IsWhole from Memref.isWhole_whole _).wordExact_slice rfl _ (outRect_words d b g s)

/-- The device a direction sends to. -/
abbrev peer (b : Bool) (d : Dev nD) : Dev nD :=
  match b with | false => ⟨k0_dev3 d, k0_dev3_lt d⟩ | true => ⟨k0_dev4 d, k0_dev4_lt d⟩

/-- The `s`-th slot of hop `h`. -/
abbrev sl24 (h : Fin 6) (s : Fin 4) : Fin 24 := ⟨4 * h.val + s.val, by omega⟩
/-- The `s`-th slot of hop `h`, of the sixteen a send buffer has. -/
abbrev sl16 (h s : Fin 4) : Fin 16 := ⟨4 * h.val + s.val, by omega⟩

/-! ## The operations of a step -/

/-- A program of the kernel's body. -/
abbrev Pr (F : FTy → Type) [FloatOps F] (α : Type) : Type 1 := Prog (TpuEff nD τ sig (Elt F) Λ₀ .tc) α

/-- Write a send slot: the block there is read and dropped first, as the kernel does. -/
def putSlot (b : Bool) (j : Fin 16) (v : FVec F S1x512x256 .bf16) : Pr F PUnit := do
  let _ : Vec F S1x512x256 .bf16 ← Prog.lift (.load (sBuf b) (rect16 j).toLoadRect (View.loadsAt_vmem h_S1x512x256))
  Prog.lift (.store (sBuf b) (rect16 j) v Finset.univ (View.stores_vmem h_S1x512x256 ((sBuf_whole b).storeExact_slice rfl _ (packed16 j)) (fun _ => rfl)) (.inl rfl))

/-- Send a send slot to the neighbour. -/
def sendS (d : Dev nD) (b : Bool) (j : Fin 16) (k : Fin 24) : Pr F PUnit :=
  Prog.lift (.enqueueDma (sSq b j) (.remote (Dev.tc (peer b d)) (rSq b k) (.dma (sSem b k))) (.dma (rSem b k)) (sSq_words b j) (rSq_words b k) ⟨⟨rfl, Or.inl rfl⟩, trivial⟩)

/-- Forward a receive slot to the neighbour. -/
def sendR (d : Dev nD) (b : Bool) (j : Fin 24) (k : Fin 24) : Pr F PUnit :=
  Prog.lift (.enqueueDma (rSq b j) (.remote (Dev.tc (peer b d)) (rSq b k) (.dma (sSem b k))) (.dma (rSem b k)) (rSq_words b j) (rSq_words b k) ⟨⟨rfl, Or.inl rfl⟩, trivial⟩)

/-- Wait for the arrival in slot `k`, sent there from a send slot. -/
def waitS (b : Bool) (j : Fin 16) (k : Fin 24) : Pr F PUnit :=
  Prog.lift (.waitDma2 (rSem b k) (sSq b j) (rSq b k) (sSq_words b j) (rSq_words b k))

/-- Wait for the arrival in slot `k`, forwarded there from a receive slot. -/
def waitR (b : Bool) (j k : Fin 24) : Pr F PUnit :=
  Prog.lift (.waitDma2 (rSem b k) (rSq b j) (rSq b k) (rSq_words b j) (rSq_words b k))

/-- Read a receive slot. -/
def getSlot (b : Bool) (k : Fin 24) : Pr F (Vec F S1x512x256 .bf16) :=
  Prog.lift (.load (rBuf b) (rect24 k).toLoadRect (View.loadsAt_vmem h_S1x512x256))

/-- Read the block of the accumulator that hop `h + 1` adds. -/
def getAcc (d : Dev nD) (b : Bool) (h : Fin 3) (s : Fin 4) : Pr F (Vec F S512x256 .bf16) :=
  Prog.lift (.load (Memref.whole cc0_scratch0 : Memref sig .tc .vmem S2048x2048 .bf16) (accRect d b h s).toLoadRect (View.loadsAt_vmem h_S512x256))

/-- Copy a send slot to the result. -/
def outS (d : Dev nD) (b : Bool) (j : Fin 16) (s : Fin 4) : Pr F PUnit :=
  Prog.lift (.enqueueDma (sSq b j) (.here (oBlk d b 0 s)) (.dma (oSem b (sl16 0 s))) (sSq_words b j) (oBlk_words d b 0 s) ⟨Or.inl rfl, trivial⟩)

/-- Copy a receive slot to the result. -/
def outR (d : Dev nD) (b : Bool) (j : Fin 24) (g s : Fin 4) : Pr F PUnit :=
  Prog.lift (.enqueueDma (rSq b j) (.here (oBlk d b g s)) (.dma (oSem b (sl16 g s))) (rSq_words b j) (oBlk_words d b g s) ⟨Or.inl rfl, trivial⟩)

/-! ## Payloads -/

/-- A product block as it is stored in a send slot. -/
abbrev payMul (x : Vec F S512x512 .bf16) (w : Vec F S512x256 .bf16) : FVec F S1x512x256 .bf16 := k0_pay3 x w
/-- A received block plus a block of the accumulator, as it is stored in a send slot. -/
abbrev payAdd (r : Vec F S1x512x256 .bf16) (a : Vec F S512x256 .bf16) : FVec F S1x512x256 .bf16 := k0_pay16 r a
/-- The activation of a received block plus a block of the accumulator, as it is stored in a send slot. -/
abbrev paySilu (r : Vec F S1x512x256 .bf16) (a : Vec F S512x256 .bf16) : FVec F S1x512x256 .bf16 := k0_pay36 r a

/-! ## Steps -/

/-- First hop: compute a block of the device's own row block and send it. -/
def stA (d : Dev nD) (x : Vec F S512x512 .bf16) (b : Bool) (s : Fin 4) : Pr F PUnit := do
  let w : Vec F S512x256 .bf16 ← Prog.lift (.load (Memref.whole cc0_scratch1 : Memref sig .tc .vmem S512x2048 .bf16) (colRect b s).toLoadRect (View.loadsAt_vmem h_S512x256))
  putSlot b (sl16 0 s) (payMul x w)
  sendS d b (sl16 0 s) (sl24 0 s)

/-- Hops 1 and 2: add the device's part to what arrived and send the sum on. -/
def stB (d : Dev nD) (h : Fin 2) (b : Bool) (s : Fin 4) : Pr F PUnit := do
  waitS b (sl16 h.castSucc.castSucc s) (sl24 (h.castLE (by omega)) s)
  let r ← getSlot b (sl24 (h.castLE (by omega)) s)
  let a ← getAcc d b h.castSucc s
  putSlot b (sl16 h.succ.castSucc s) (payAdd r a)
  sendS d b (sl16 h.succ.castSucc s) (sl24 (h.succ.castLE (by omega)) s)

/-- Hop 3: the last part is added, the activation taken, and the block sent on and copied out. -/
def stC (d : Dev nD) (b : Bool) (s : Fin 4) : Pr F PUnit := do
  waitS b (sl16 2 s) (sl24 2 s)
  let r ← getSlot b (sl24 2 s)
  let a ← getAcc d b 2 s
  putSlot b (sl16 3 s) (paySilu r a)
  sendS d b (sl16 3 s) (sl24 3 s)
  outS d b (sl16 3 s) s

/-- Hop 4: what arrived from a send slot is forwarded and copied out. -/
def stD (d : Dev nD) (b : Bool) (s : Fin 4) : Pr F PUnit := do
  waitS b (sl16 3 s) (sl24 3 s)
  sendR d b (sl24 3 s) (sl24 4 s)
  outR d b (sl24 3 s) 1 s

/-- Hop 5: what arrived from a receive slot is forwarded and copied out. -/
def stE (d : Dev nD) (b : Bool) (s : Fin 4) : Pr F PUnit := do
  waitR b (sl24 3 s) (sl24 4 s)
  sendR d b (sl24 4 s) (sl24 5 s)
  outR d b (sl24 4 s) 2 s

/-- The last arrivals are copied out. -/
def stF (d : Dev nD) (b : Bool) (s : Fin 4) : Pr F PUnit := do
  waitR b (sl24 4 s) (sl24 5 s)
  outR d b (sl24 5 s) 3 s

/-- A step in each direction for each of the four column blocks. -/
def ring8 (st : Bool → Fin 4 → Pr F PUnit) : Pr F PUnit := do
  st false 0; st true 0; st false 1; st true 1; st false 2; st true 2; st false 3; st true 3

/-- The device's part of the product for one of the other row blocks. -/
def gemm (a0 : Memref sig .tc .vmem S2048x512 .bf16) (d : Dev nD) (r : Fin 3) : Pr F PUnit := do
  let x : Vec F S512x512 .bf16 ← Prog.lift (.load a0 (Rect.unit (s := S2048x512) (k0_off2 d (k0_off2_at r)) S512x512.size (k0_off2_inb d r)).toLoadRect (View.loadsAt_vmem h_S512x512))
  let w : Vec F S512x2048 .bf16 ← Prog.lift (.load (Memref.whole cc0_scratch1 : Memref sig .tc .vmem S512x2048 .bf16) (Rect.unit (s := S512x2048) ![0, 0] S512x2048.size inb_S512x2048_S512x2048_0_0).toLoadRect (View.loadsAt_vmem h_S512x2048))
  let _ : Vec F S512x2048 .bf16 ← Prog.lift (.load (Memref.whole cc0_scratch0 : Memref sig .tc .vmem S2048x2048 .bf16) (Rect.unit (s := S2048x2048) (k0_off3 d (k0_off3_at r)) S512x2048.size (k0_off3_inb d r)).toLoadRect (View.loadsAt_vmem h_S512x2048))
  Prog.lift (.store (Memref.whole cc0_scratch0 : Memref sig .tc .vmem S2048x2048 .bf16) (Rect.unit (s := S2048x2048) (k0_off3 d (k0_off3_at r)) S512x2048.size (k0_off3_inb d r)) (k0_pay12 x w) Finset.univ (View.stores_vmem h_S512x2048 ((show (Memref.whole cc0_scratch0 : Memref sig .tc .vmem S2048x2048 .bf16).IsWhole from Memref.isWhole_whole _).storeExact_slice rfl _ (k0_off3_packedbf16 d r)) (fun _ => rfl)) (.inl rfl))

/-- The wait for the copy of a send slot to the result. -/
def drainOS (d : Dev nD) (b : Bool) (s : Fin 4) : Pr F PUnit :=
  Prog.lift (.waitDma2 (oSem b (sl16 0 s)) (sSq b (sl16 3 s)) (oBlk d b 0 s) (sSq_words b (sl16 3 s)) (oBlk_words d b 0 s))
/-- The wait for the copy of a receive slot to the result. -/
def drainOR (d : Dev nD) (h : Fin 6) (g : Fin 4) (b : Bool) (s : Fin 4) : Pr F PUnit :=
  Prog.lift (.waitDma2 (oSem b (sl16 g s)) (rSq b (sl24 h s)) (oBlk d b g s) (rSq_words b (sl24 h s)) (oBlk_words d b g s))
/-- The wait for a send from a send slot. -/
def drainSS (h : Fin 4) (b : Bool) (s : Fin 4) : Pr F PUnit :=
  Prog.lift (.waitDma2 (sSem b (sl24 (h.castLE (by omega)) s)) (rSq b (sl24 (h.castLE (by omega)) s)) (sSq b (sl16 h s)) (rSq_words b _) (sSq_words b _))
/-- The wait for a send from a receive slot. -/
def drainSR (h' h : Fin 6) (b : Bool) (s : Fin 4) : Pr F PUnit :=
  Prog.lift (.waitDma2 (sSem b (sl24 h s)) (rSq b (sl24 h s)) (rSq b (sl24 h' s)) (rSq_words b _) (rSq_words b _))

/-- The barrier and the first loads: the weights are copied into their scratch buffer, and the
    device's own row block of the activations is read. -/
def prologue (a0 : Memref sig .tc .vmem S2048x512 .bf16) (a1 : Memref sig .tc .vmem S512x2048 .bf16) (d : Dev nD) :
    Pr F (Vec F S512x512 .bf16) := do
  semSignalWord (⟨k0_dev1 d, k0_dev1_lt d⟩ : Dev nD) (SemArray.scalar (sig.barrier 0 rfl) : Sems sig S_).sem 1#32
  semSignalWord (⟨k0_dev2 d, k0_dev2_lt d⟩ : Dev nD) (SemArray.scalar (sig.barrier 0 rfl) : Sems sig S_).sem 1#32
  semWaitWord (SemArray.scalar (sig.barrier 0 rfl) : Sems sig S_).sem 2#32
  let w : Vec F S512x2048 .bf16 ← Prog.lift (.load a1 (Rect.unit (s := S512x2048) ![0, 0] S512x2048.size inb_S512x2048_S512x2048_0_0).toLoadRect (View.loadsAt_vmem h_S512x2048))
  let _ : Vec F S512x2048 .bf16 ← Prog.lift (.load (Memref.whole cc0_scratch1 : Memref sig .tc .vmem S512x2048 .bf16) (Rect.unit (s := S512x2048) ![0, 0] S512x2048.size inb_S512x2048_S512x2048_0_0).toLoadRect (View.loadsAt_vmem h_S512x2048))
  Prog.lift (.store (Memref.whole cc0_scratch1 : Memref sig .tc .vmem S512x2048 .bf16) (Rect.unit (s := S512x2048) ![0, 0] S512x2048.size inb_S512x2048_S512x2048_0_0) (k0_pay1 w) Finset.univ (View.stores_vmem h_S512x2048 ((show (Memref.whole cc0_scratch1 : Memref sig .tc .vmem S512x2048 .bf16).IsWhole from Memref.isWhole_whole _).storeExact_slice rfl _ packedbf16_S512x2048_S512x2048_0_0) (fun _ => rfl)) (.inl rfl))
  Prog.lift (.load a0 (Rect.unit (s := S2048x512) (k0_off1 d) S512x512.size (k0_off1_inb d)).toLoadRect (View.loadsAt_vmem h_S512x512))

/-- The kernel's body over the direction and the slot. -/
def body (a0 : Memref sig .tc .vmem S2048x512 .bf16) (a1 : Memref sig .tc .vmem S512x2048 .bf16) : Pr F PUnit := do
  let d : Dev nD ← Prog.lift .deviceId
  let x ← prologue a0 a1 d
  ring8 (stA d x)
  gemm a0 d 0; gemm a0 d 1; gemm a0 d 2
  ring8 (stB d 0); ring8 (stB d 1); ring8 (stC d); ring8 (stD d); ring8 (stE d); ring8 (stF d)
  ring8 (drainOS d); ring8 (drainOR d 3 1); ring8 (drainOR d 4 2); ring8 (drainOR d 5 3)
  ring8 (drainSS 0); ring8 (drainSS 1); ring8 (drainSS 2); ring8 (drainSS 3)
  ring8 (drainSR 3 4); ring8 (drainSR 4 5)

end Cert.KernelIdeal.Own
-- ==== Proof.Sched.lean ====
/- Who waits for whom, and what each wait hands over.

   Every transfer of the kernel has a semaphore of its own, used once. A column is a direction and
   one of the four column blocks; over a column there are six sends, six arrivals and four copies to
   the result. The barrier's semaphore is signalled once by each neighbour. -/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.ValueIdxCore
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

/-- The ring's part of the ghost state: duties are named by a `Bool`. -/
abbrev UB : Type := URounds (GSem nD τ sig) Bool
/-- The pipeline's part and the ring's. -/
abbrev UU : Type := UR sig nD τ × UB

local notation "𝕄" => MT nD τ sig Unit (Elt F) ℕ UU ℕ

/-- Where the pipeline's part lies. -/
abbrev EP : Emb (UR sig nD τ) (MT nD τ sig Unit (Elt F) ℕ UU ℕ) := embL
/-- Where the ring's part lies. -/
abbrev ER : Emb UB (MT nD τ sig Unit (Elt F) ℕ UU ℕ) := embR

/-- No loop variants. -/
abbrev 𝒱₀ : Variants := Variants.none

/-! ## The neighbours -/

/-- The device a direction receives from. -/
abbrev frm (b : Bool) (c : Dev nD) : Dev nD := peer (!b) c

/-- Who receives from `c` is whom `c` sends to; -/
theorem frm_peer : ∀ (b : Bool) (c : Dev nD), frm b (peer b c) = c := by decide +kernel
/-- and the other way round. -/
theorem peer_frm : ∀ (b : Bool) (c : Dev nD), peer b (frm b c) = c := by decide +kernel
/-- The first signal goes to the device whose transfers to the right arrive from here... -/
theorem dev1_eq : ∀ c : Dev nD, (⟨k0_dev1 c, k0_dev1_lt c⟩ : Dev nD) = frm false c := by decide +kernel
/-- and the second to the other one. -/
theorem dev2_eq : ∀ c : Dev nD, (⟨k0_dev2 c, k0_dev2_lt c⟩ : Dev nD) = frm true c := by decide +kernel

/-- The turn of the ring a direction makes. -/
def turn (b : Bool) : Dev nD ≃ Dev nD := ⟨peer b, frm b, frm_peer b, peer_frm b⟩

/-! ## The values that travel -/

variable (xs : Dev nD → Vec F S2048x512 .bf16) (ws : Dev nD → Vec F S512x2048 .bf16)

/-- A device's own row block of its activations. -/
def xOwn (c : Dev nD) : Vec F S512x512 .bf16 :=
  (Memref.whole cc0_stg0_0 : Memref sig .tc .vmem S2048x512 .bf16).view.readAt (Elt F)
    (Rect.unit (s := S2048x512) (k0_off1 c) S512x512.size (k0_off1_inb c)).toLoadRect (xs c)
/-- Another row block of a device's activations. -/
def xOther (c : Dev nD) (r : Fin 3) : Vec F S512x512 .bf16 :=
  (Memref.whole cc0_stg0_0 : Memref sig .tc .vmem S2048x512 .bf16).view.readAt (Elt F)
    (Rect.unit (s := S2048x512) (k0_off2 c (k0_off2_at r)) S512x512.size (k0_off2_inb c r)).toLoadRect (xs c)
/-- The weights as they lie in their scratch buffer. -/
def wScr (c : Dev nD) : Vec F S512x2048 .bf16 := k0_pay1 (ws c)
/-- A column block of the weights. -/
def wCol (c : Dev nD) (b : Bool) (s : Fin 4) : Vec F S512x256 .bf16 :=
  (Memref.whole cc0_scratch1 : Memref sig .tc .vmem S512x2048 .bf16).view.readAt (Elt F) (colRect b s).toLoadRect (wScr ws c)
/-- A device's part of another row block of the product. -/
def accRows (c : Dev nD) (r : Fin 3) : Vec F S512x2048 .bf16 := k0_pay12 (xOther xs c r) (wScr ws c)

/-- Which of the three other row blocks hop `h + 1` adds. -/
def accIx (b : Bool) (h : Fin 3) : Fin 3 :=
  match b, h with
  | false, 0 => 0 | false, 1 => 2 | false, 2 => 1
  | true, 0 => 1 | true, 1 => 2 | true, 2 => 0

/-- A block of a device's part of another row block. -/
def accB (c : Dev nD) (b : Bool) (h : Fin 3) (s : Fin 4) : Vec F S512x256 .bf16 :=
  fun i => accRows xs ws c (accIx b h) (ValueIdx.ix2 (n0 := 512) (n1 := 2048) (i 0) ⟨colN b s + (i 1).val, by
    have h : (i 1).val < 256 := (i 1).isLt
    cases b <;> simp [colN] <;> omega⟩)

/-- What device `c` sends at hop `h` over a column. -/
def V : ℕ → Dev nD → Bool → Fin 4 → FVec F S1x512x256 .bf16
  | 0, c, b, s => payMul (xOwn xs c) (wCol ws c b s)
  | 1, c, b, s => payAdd (V 0 (frm b c) b s) (accB xs ws c b 0 s)
  | 2, c, b, s => payAdd (V 1 (frm b c) b s) (accB xs ws c b 1 s)
  | 3, c, b, s => paySilu (V 2 (frm b c) b s) (accB xs ws c b 2 s)
  | n + 4, c, b, s => V (n + 3) (frm b c) b s

/-! ## Who holds what -/

/-- Device `c` holds a block at a share and reads `X` there. -/
abbrev own (c : Dev nD) {sp : Space} {sh : Shape} (M : Memref sig .tc sp sh .bf16) (q : PosShare TreeShare) (X : Vec F sh .bf16) : sProp 𝕄 :=
  owns (c : Thread nD τ) M q X
/-- Device `c` holds a block, whatever is there. -/
def any (c : Dev nD) {sp : Space} {sh : Shape} (M : Memref sig .tc sp sh .bf16) : sProp 𝕄 :=
  iprop(∃ X : Vec F sh .bf16, own c M fullShare X)

instance any_storable (c : Dev nD) {sp : Space} {sh : Shape} (M : Memref sig .tc sp sh .bf16) :
    BI.Storable (upEmb : UEmb _ 𝕄) (any (F := F) c M) := by unfold any own; infer_instance

/-- The slot hop `h` sends from. -/
def srcM (b : Bool) (h : Fin 6) (s : Fin 4) : Memref sig .tc .vmem S1x512x256 .bf16 :=
  match h with
  | 0 => sSl b (sl16 0 s) | 1 => sSl b (sl16 1 s) | 2 => sSl b (sl16 2 s) | 3 => sSl b (sl16 3 s)
  | 4 => rSl b (sl24 3 s) | 5 => rSl b (sl24 4 s)
/-- How much of it: half where the slot is also copied to the result. -/
def srcQ (h : Fin 6) : PosShare TreeShare :=
  match h with | 0 => fullShare | 1 => fullShare | 2 => fullShare | 3 => fullShare.left | 4 => fullShare.left | 5 => fullShare.left
/-- The slot a copy to the result reads. -/
def outM (b : Bool) (g s : Fin 4) : Memref sig .tc .vmem S1x512x256 .bf16 :=
  match g with
  | 0 => sSl b (sl16 3 s) | 1 => rSl b (sl24 3 s) | 2 => rSl b (sl24 4 s) | 3 => rSl b (sl24 5 s)
/-- How much of it: all of it where the slot is not sent. -/
def outQ (g : Fin 4) : PosShare TreeShare :=
  match g with | 0 => fullShare.right | 1 => fullShare.right | 2 => fullShare.right | 3 => fullShare

/-- A slot's contents without the leading axis. -/
abbrev flat (X : Vec F S1x512x256 .bf16) : Vec F S512x256 .bf16 := fun i => X (Shape.reshapeEquiv squeezes_S1x512x256_S512x256.numel_eq i)

/-! ## The semaphores -/

/-- The runtime's barrier semaphore. -/
abbrev barS : Sem sig := (SemArray.scalar (sig.barrier 0 rfl) : Sems sig S_).sem

/-- A column: a direction and a column block. -/
abbrev Col : Type := Bool × Fin 4
/-- A transfer: the send of a hop, the arrival of a hop, or a copy to the result, over a column. -/
abbrev Kind : Type := (Fin 6 ⊕ Fin 6 ⊕ Fin 4) × Col

instance kind_decEq : DecidableEq (Option Kind) := inferInstance

/-- A transfer's semaphore. -/
abbrev dsem : Kind → DmaSem sig
  | (.inl h, b, s) => sSem b (sl24 h s)
  | (.inr (.inl h), b, s) => rSem b (sl24 h s)
  | (.inr (.inr g), b, s) => oSem b (sl16 g s)
/-- The same among all semaphores. -/
abbrev osem (k : Kind) : SemLoc sig := .dma (dsem k)
/-- All the ring's semaphores: the barrier's and the transfers'. -/
abbrev csem : Option Kind → SemLoc sig
  | none => .reg barS
  | some k => osem k

/-- No two transfers share a semaphore. -/
theorem dsem_inj : Function.Injective dsem := by
  rintro ⟨h, b, s⟩ ⟨h', b', s'⟩ e
  have e := congrArg Fin.val e
  rcases h with h | h | h <;> rcases h' with h' | h' | h' <;> cases b <;> cases b' <;>
    simp only [dsem, sSem, rSem, oSem, sl24, sl16] at e <;>
    first
    | (exfalso; omega)
    | (have h1 : h = h' := Fin.ext (by omega); have h2 : s = s' := Fin.ext (by omega); subst h1; subst h2; rfl)

/-- No two of the ring's semaphores are the same. -/
theorem csem_inj : Function.Injective csem := by
  rintro (_ | k) (_ | k') e
  · rfl
  · cases e
  · cases e
  · exact congrArg some (dsem_inj (by injection e))

/-- A device's semaphore. -/
abbrev kcell (c : Dev nD) (k : Option Kind) : GSem nD τ sig := ((c : Thread nD τ), csem k)
/-- The semaphore of a send. -/
abbrev sC (c : Dev nD) (h : Fin 6) (b : Bool) (s : Fin 4) : GSem nD τ sig := kcell c (some (.inl h, b, s))
/-- The semaphore of an arrival. -/
abbrev rC (c : Dev nD) (h : Fin 6) (b : Bool) (s : Fin 4) : GSem nD τ sig := kcell c (some (.inr (.inl h), b, s))
/-- The semaphore of a copy to the result. -/
abbrev oC (c : Dev nD) (g : Fin 4) (b : Bool) (s : Fin 4) : GSem nD τ sig := kcell c (some (.inr (.inr g), b, s))

/-- The size of a block, as the semaphores count it. -/
abbrev N : ℕ := (rSq false 0).view.dmaCredit
/-- It is not zero. -/
theorem N_pos : 0 < N := View.dmaCredit_pos _ (by decide)

/-! ## The schedule -/

/-- All the receive slots of a direction, whatever is there. -/
def slots (c : Dev nD) (b : Bool) : sProp 𝕄 :=
  bigSep Finset.univ fun h : Fin 6 => bigSep Finset.univ fun s : Fin 4 => any c (rSl b (sl24 h s))

instance slots_storable (c : Dev nD) (b : Bool) : BI.Storable (upEmb : UEmb _ 𝕄) (slots (F := F) c b) := by
  unfold slots; infer_instance

/-- What a semaphore's wait hands over: the barrier's, the neighbours' receive slots; a send's, the slot
    back; an arrival's, the slot holding what was sent; a copy's, the block of the result and the slot back. -/
def pay (c : Dev nD) : Option Kind → Bool → sProp 𝕄
  | none, b => slots (peer b c) b
  | some (.inl h, b, s), _ => own c (srcM b h s) (srcQ h) (V xs ws h.val c b s)
  | some (.inr (.inl h), b, s), _ => own c (rSl b (sl24 h s)) fullShare (V xs ws h.val (frm b c) b s)
  | some (.inr (.inr g), b, s), _ =>
      iprop(own c (oBlk c b g s) fullShare (flat (V xs ws (g.val + 3) c b s)) ∗ own c (outM b g s) (outQ g) (V xs ws (g.val + 3) c b s))

instance pay_storable (c : Dev nD) (k : Option Kind) (d : Bool) : BI.Storable (upEmb : UEmb _ 𝕄) (pay xs ws c k d) := by
  rcases k with _ | ⟨h | h | h, b, s⟩ <;> unfold pay <;> infer_instance

/-- One round: a barrier has one duty for each neighbour, a transfer one. -/
def Rd : Rounds.Schedule (GSem nD τ sig) Bool 𝕄 where
  duties g r := if r = 0 ∧ g.1.2 = .tc then Function.extend csem (fun k => match k with | none => Finset.univ | some _ => {false}) (fun _ => ∅) g.2 else ∅
  unitless _ := False
  amount g _ _ := Function.extend csem (fun k => match k with | none => 1 | some _ => N) (fun _ => 1) g.2
  payload g _ d := Function.extend csem (fun k => pay xs ws g.1.1 k d) (fun _ => iprop(emp)) g.2
  amount_pos g _ _ _ := by
    by_cases h : ∃ k, csem k = g.2
    · obtain ⟨k, hk⟩ := h
      rw [← hk, csem_inj.extend_apply]
      cases k
      · exact Nat.one_pos
      · exact N_pos
    · rw [Function.extend_apply' _ _ _ h]; exact Nat.one_pos

instance Rd_storable (g : GSem nD τ sig) (r : ℕ) (d : Bool) : BI.Storable (upEmb : UEmb _ 𝕄) ((Rd xs ws).payload g r d) := by
  show BI.Storable upEmb (Function.extend csem (fun k => pay xs ws g.1.1 k d) (fun _ => iprop(emp)) g.2)
  by_cases h : ∃ k, csem k = g.2
  · obtain ⟨k, hk⟩ := h
    rw [← hk, csem_inj.extend_apply]; infer_instance
  · rw [Function.extend_apply' _ _ _ h]; infer_instance

section Tables
variable (c : Dev nD)

/-- A barrier's duties; -/
theorem duties_bar : (Rd xs ws).duties (kcell c none) 0 = Finset.univ := by
  dsimp only [Rd]; rw [if_pos ⟨rfl, rfl⟩, csem_inj.extend_apply]
/-- a transfer's duty; -/
theorem duties_dma (k : Kind) : (Rd xs ws).duties (kcell c (some k)) 0 = {false} := by
  dsimp only [Rd]; rw [if_pos ⟨rfl, rfl⟩, csem_inj.extend_apply]
/-- no duties after the first round. -/
theorem duties_later (g : GSem nD τ sig) : ∀ r, 1 ≤ r → (Rd xs ws).duties g r = ∅ :=
  fun r hr => by dsimp only [Rd]; rw [if_neg fun h => by omega]
/-- A signal counts one; -/
theorem amount_bar (d : Bool) : (Rd xs ws).amount (kcell c none) 0 d = 1 := by
  dsimp only [Rd]; rw [csem_inj.extend_apply]
/-- a transfer counts its size. -/
theorem amount_dma (k : Kind) (d : Bool) : (Rd xs ws).amount (kcell c (some k)) 0 d = N := by
  dsimp only [Rd]; rw [csem_inj.extend_apply]
/-- What a wait hands over. -/
theorem payload_eq (k : Option Kind) (d : Bool) : (Rd xs ws).payload (kcell c k) 0 d = pay xs ws c k d := by
  dsimp only [Rd]; rw [csem_inj.extend_apply]
/-- A barrier expects two signals; -/
theorem expect_bar : (Rd xs ws).expect (kcell c none) 0 = 2 := by
  unfold Schedule.expect Schedule.amountOf
  rw [duties_bar, Finset.sum_congr rfl fun d _ => amount_bar xs ws c d, Finset.sum_const, Finset.card_univ, Fintype.card_bool, smul_eq_mul]
/-- a transfer's wait its size. -/
theorem expect_dma (k : Kind) : (Rd xs ws).expect (kcell c (some k)) 0 = N := by
  unfold Schedule.expect Schedule.amountOf; rw [duties_dma, Finset.sum_singleton, amount_dma]
/-- The barrier's wait hands over both neighbours' slots; -/
theorem rest_bar : bigSep ((Rd xs ws).duties (kcell c none) 0 \ ∅) (fun d => (Rd xs ws).payload (kcell c none) 0 d)
    = bigSep Finset.univ fun b : Bool => slots (F := F) (peer b c) b := by
  rw [Finset.sdiff_empty, duties_bar]
  exact bigSep_congr fun d _ => payload_eq xs ws c none d
/-- a transfer's what it carries. -/
theorem rest_dma (k : Kind) : bigSep ((Rd xs ws).duties (kcell c (some k)) 0 \ ∅) (fun d => (Rd xs ws).payload (kcell c (some k)) 0 d)
    = pay xs ws c (some k) false := by
  rw [Finset.sdiff_empty, duties_dma, bigSep_singleton, payload_eq]

end Tables

/-! ## What a device still owes, and the levels -/

/-- The receiver of the `p`-th transfer a device sends. -/
abbrev dueC (c : Dev nD) (p : Fin 48) : GSem nD τ sig :=
  let b : Bool := p.val % 2 == 1
  rC (peer b c) ⟨p.val / 8, by omega⟩ b ⟨p.val % 8 / 2, by omega⟩

/-- What is owed for the last `n` transfers. -/
def owed (c : Dev nD) : ℕ → CellTallies nD τ sig Unit
  | 0 => 0
  | n + 1 => owed c n + tallyAt (dueC c ⟨47 - n, by omega⟩) () N

/-- Something owed is owed to the receiver of one of the last `n` transfers. -/
theorem owed_pos {c : Dev nD} {g : GSem nD τ sig} {u : Unit} : ∀ {n : ℕ}, 0 < owed c n g u → ∃ p : Fin 48, 48 - n ≤ p.val ∧ g = dueC c p
  | 0, h => absurd h (Nat.lt_irrefl 0)
  | n + 1, h => by
    unfold owed at h
    rw [Pi.add_apply, Finsupp.add_apply, tallyAt_apply] at h
    by_cases hg : g = dueC c ⟨47 - n, by omega⟩ ∧ u = ()
    · exact ⟨_, by simp only; omega, hg.1⟩
    · rw [if_neg hg, Nat.add_zero] at h
      obtain ⟨p, hp, e⟩ := owed_pos h
      exact ⟨p, by omega, e⟩

/-- One index per core. -/
def L (g : GSem nD τ sig) : Finset Unit := if g.1.2 = .tc then {()} else ∅
/-- The barrier at 1, the arrivals of hop `h` at `h + 2`, everything else at 0. -/
def lv (g : GSem nD τ sig) (_ : Unit) : ℕ :=
  Function.extend csem (fun k => match k with | none => 1 | some (.inr (.inl h), _) => h.val + 2 | some _ => 0) (fun _ => 0) g.2

/-- Off the cores there is no index; -/
theorem L_of_ne (g : GSem nD τ sig) (h : g.1.2 ≠ .tc) : L g = ∅ := if_neg h
/-- on a core there is one. -/
theorem L_tc (c : Dev nD) (sm : SemLoc sig) : L ((c : Thread nD τ), sm) = {()} := if_pos rfl
/-- The barrier's level. -/
theorem lv_bar (c : Dev nD) (u : Unit) : lv (kcell c none) u = 1 := csem_inj.extend_apply _ _ none
/-- An arrival's level. -/
theorem lv_recv (c : Dev nD) (h : Fin 6) (b : Bool) (s : Fin 4) (u : Unit) : lv (rC c h b s) u = h.val + 2 := csem_inj.extend_apply _ _ (some (.inr (.inl h), b, s))

/-- A wait below everything owed is allowed. -/
theorem mayWait_owed (c : Dev nD) (sm : SemLoc sig) (n l : ℕ) (hl : lv ((c : Thread nD τ), sm) () ≤ l)
    (hn : ∀ p : Fin 48, 48 - n ≤ p.val → l < p.val / 8 + 2) :
    (levAts L lv : sProp 𝕄) ⊢ MayWait (c : Thread nD τ) sm () (owed c n) :=
  MayOwe.of_cut (L := L) (lev := lv) l (fun p hp => by rw [Finset.mem_singleton.mp hp, L_tc]; exact Finset.mem_singleton_self _)
    (fun g u hg => by obtain ⟨p, -, rfl⟩ := owed_pos hg; rw [L_tc]; exact Finset.mem_singleton_self _)
    (fun p hp => by rw [Finset.mem_singleton.mp hp]; exact hl)
    (fun g u hg => by obtain ⟨p, hp, rfl⟩ := owed_pos hg; rw [lv_recv]; exact hn p hp)

/-- The wait for an arrival of hop `h` is allowed once everything of the hops up to `h` is sent. -/
theorem mayWait_recv (c : Dev nD) (h : Fin 6) (b : Bool) (s : Fin 4) (n : ℕ) (hn : n + 8 * (h.val + 1) ≤ 48) :
    (levAts L lv : sProp 𝕄) ⊢ MayWait (c : Thread nD τ) (csem (some (.inr (.inl h), b, s))) () (owed c n) :=
  mayWait_owed c _ n (h.val + 2) (by rw [lv_recv]) (fun p hp => by omega)
/-- The barrier's wait is allowed whatever is owed to arrivals. -/
theorem mayWait_bar (c : Dev nD) (n : ℕ) : (levAts L lv : sProp 𝕄) ⊢ MayWait (c : Thread nD τ) (csem none) () (owed c n) :=
  mayWait_owed c _ n 1 (by rw [lv_bar]) (fun p hp => by omega)

end Cert.KernelIdeal.Own
-- ==== Proof.Ops.lean ====
/- The kernel's operations one by one: what each needs and what it leaves. -/
module

public import proofs.«01_k».proof.Proof.Sched

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S2048x512 .bf16) (ws : Dev nD → Vec F S512x2048 .bf16)

/-- A program of device `c` runs and ends in `Q`. -/
abbrev run {α : Type} (c : Dev nD) (p : Pr F α) (Q : α → sProp 𝕄) : sProp 𝕄 :=
  wp frame (wpE (defs₀ (F := F)) 𝒱₀ (c : Thread nD τ) none) Set.univ p Q

/-! ## What every device knows throughout -/

variable (K : Dev nD × Option Kind → ℕ)

/-- Every semaphore follows the schedule and is in its first round or later. -/
def records : sProp 𝕄 :=
  iprop((bigSep Finset.univ fun ck : Dev nD × Option Kind => cellInv ER (Rd xs ws) (K ck) (kcell ck.1 ck.2))
    ∗ bigSep Finset.univ fun ck : Dev nD × Option Kind => reached ER (kcell ck.1 ck.2) 0)

instance records_persistent : BI.Persistent (records xs ws K) := by unfold records; infer_instance

/-- That, and the levels. -/
def Ctx : sProp 𝕄 := iprop(records xs ws K ∗ levAts L lv)

instance Ctx_persistent : BI.Persistent (Ctx xs ws K) := by unfold Ctx; infer_instance

/-- A semaphore follows the schedule. -/
theorem inv_at (c : Dev nD) (k : Option Kind) : Ctx xs ws K ⊢ cellInv ER (Rd xs ws) (K (c, k)) (kcell c k) := by
  unfold Ctx records
  iintro ⟨⟨H, -⟩, -⟩
  iapply (show (bigSep Finset.univ fun ck : Dev nD × Option Kind => (cellInv ER (Rd xs ws) (K ck) (kcell ck.1 ck.2) : sProp 𝕄))
    ⊢ cellInv ER (Rd xs ws) (K (c, k)) (kcell c k) from bigSep_elim (Finset.mem_univ (c, k)))
  iexact H
/-- A semaphore is in its first round or later. -/
theorem reached_at (c : Dev nD) (k : Option Kind) : Ctx xs ws K ⊢ reached ER (kcell c k) 0 := by
  unfold Ctx records
  iintro ⟨⟨-, H⟩, -⟩
  iapply (show (bigSep Finset.univ fun ck : Dev nD × Option Kind => (reached ER (kcell ck.1 ck.2) 0 : sProp 𝕄))
    ⊢ reached ER (kcell c k) 0 from bigSep_elim (Finset.mem_univ (c, k)))
  iexact H
/-- The levels are as stated. -/
theorem lev_at : Ctx xs ws K ⊢ levAts L lv := by
  unfold Ctx; iintro ⟨-, H⟩; iexact H

/-! ## Slots -/

/-- A slot read as a copy names it is the slot read flat. -/
theorem read_sq (M : Memref sig .tc .vmem S1x512x256 .bf16) (f : M.view.ty.Contents (Elt F)) :
    (M.squeeze S512x256 squeezes_S1x512x256_S512x256).view.read (Elt F) f = flat (M.view.read (Elt F) f) := rfl

/-- A flat block written to a slot as a copy names it, read back with the leading axis. -/
theorem read_land (M : Memref sig .tc .vmem S1x512x256 .bf16) (f : M.view.ty.Contents (Elt F)) (X : Vec F S1x512x256 .bf16) :
    M.view.read (Elt F) ((M.squeeze S512x256 squeezes_S1x512x256_S512x256).view.write (Elt F) f (flat X) Finset.univ) = X := by
  refine (congrArg (M.view.read (Elt F)) (View.write_reshape_univ M.view squeezes_S1x512x256_S512x256.numel_eq f (flat X))).trans ?_
  rw [View.read_write_univ]
  funext i
  exact congrArg X (Equiv.apply_symm_apply _ _)

/-- The elements of a slot are those a copy names. -/
theorem set_sq (M : Memref sig .tc .vmem S1x512x256 .bf16) :
    (M.squeeze S512x256 squeezes_S1x512x256_S512x256).view.set = M.view.set := View.set_reshape M.view squeezes_S1x512x256_S512x256.numel_eq

/-- A block held whole is held, whatever is there. -/
theorem any_intro (c : Dev nD) {sp : Space} {sh : Shape} (M : Memref sig .tc sp sh .bf16) (X : Vec F sh .bf16) :
    own c M fullShare X ⊢ any c M := by
  unfold any; iintro H; iexists X; iexact H

/-- Two halves of a block that read the same are the block. -/
theorem any_halves (c : Dev nD) {sp : Space} {sh : Shape} (M : Memref sig .tc sp sh .bf16) (X : Vec F sh .bf16) :
    iprop(own c M fullShare.left X ∗ own c M fullShare.right X) ⊢ any c M :=
  (owns_halves _ _ _ _).2.trans (any_intro c M X)

/-! ## Loads and stores -/

/-- Writing a send slot. -/
theorem put_run (c : Dev nD) (b : Bool) (j : Fin 16) (v : FVec F S1x512x256 .bf16) (Q : PUnit → sProp 𝕄) :
    iprop(any c (sSl b j) ∗ (own c (sSl b j) fullShare v -∗ Q ⟨⟩)) ⊢ run c (putSlot b j v) Q := by
  unfold putSlot any own owns
  simp only [Prog.lift, Prog.bind_op, Prog.bind_ret]
  iintro ⟨⟨%X, %f, %hf, H⟩, Hk⟩
  iapply (wp_load_rect 𝒱₀ (c : Thread nD τ) none Set.univ (m := sBuf b) (r := rect16 j) (S := (sSl b j).view.set) (Finset.Subset.refl _)) $$ H
  iintro H
  iapply (wp_store 𝒱₀ (c : Thread nD τ) none Set.univ (m := sBuf b) (r := rect16 j) (Mk := Finset.univ) (S := (sSl b j).view.set) (Finset.Subset.refl _)) $$ H
  iintro H
  rw [wp_ret]; imodintro
  iapply Hk
  iexists (((sBuf b).access (rect16 j)).write (Elt F) f v Finset.univ)
  isplitr
  · ipureintro; exact View.read_write_univ f v
  · iexact H

/-- Reading a receive slot. -/
theorem get_run (c : Dev nD) (b : Bool) (k : Fin 24) (X : Vec F S1x512x256 .bf16) (Q : Vec F S1x512x256 .bf16 → sProp 𝕄) :
    iprop(own c (rSl b k) fullShare X ∗ (own c (rSl b k) fullShare X -∗ Q X)) ⊢ run c (getSlot b k) Q := by
  unfold getSlot own owns
  simp only [Prog.lift]
  iintro ⟨⟨%f, %hf, H⟩, Hk⟩
  iapply (wp_load_rect 𝒱₀ (c : Thread nD τ) none Set.univ (m := rBuf b) (r := rect24 k) (S := (rSl b k).view.set) (Finset.Subset.refl _)) $$ H
  iintro H
  rw [wp_ret]; imodintro
  rw [show ((rBuf b).access (rect24 k)).read (Elt F) f = X from hf]
  iapply Hk
  iexists f
  isplitr
  · ipureintro; exact hf
  · iexact H

/-- The weights' scratch buffer, filled. -/
def wOwn (c : Dev nD) : sProp 𝕄 := ((c : Thread nD τ).loc cc0_scratch1) ↦{fullShare} (wScr ws c : Buf (Elt F) ((c : Thread nD τ).loc cc0_scratch1))

/-- Reading a column block of the weights. -/
theorem col_run (c : Dev nD) (b : Bool) (s : Fin 4) (Q : Vec F S512x256 .bf16 → sProp 𝕄) :
    iprop(wOwn ws c ∗ (wOwn ws c -∗ Q (wCol ws c b s)))
      ⊢ run c (Prog.lift (.load (Memref.whole cc0_scratch1 : Memref sig .tc .vmem S512x2048 .bf16) (colRect b s).toLoadRect (View.loadsAt_vmem h_S512x256))) Q := by
  unfold wOwn wCol
  simp only [Prog.lift]
  iintro ⟨H, Hk⟩
  iapply (wp_load 𝒱₀ (c : Thread nD τ) none Set.univ (m := (Memref.whole cc0_scratch1 : Memref sig .tc .vmem S512x2048 .bf16)) (Finset.subset_univ _)) $$ H
  iintro H
  rw [wp_ret]; imodintro
  iapply Hk
  iexact H

/-! ## The accumulator -/

/-- The rows of the accumulator that are computed. -/
abbrev rowsAt (c : Dev nD) (r : Fin 3) : Rect S2048x2048 := Rect.unit (s := S2048x2048) (k0_off3 c (k0_off3_at r)) S512x2048.size (k0_off3_inb c r)

/-- The first `n` of the three other row blocks are computed. -/
def AccOK (c : Dev nD) (n : ℕ) (f : Vec F S2048x2048 .bf16) : Prop :=
  ∀ r : Fin 3, r.val < n → (Memref.whole cc0_scratch0 : Memref sig .tc .vmem S2048x2048 .bf16).view.readAt (Elt F) (rowsAt c r).toLoadRect f = accRows xs ws c r

/-- The accumulator with the first `n` row blocks computed. -/
def accOwn (c : Dev nD) (n : ℕ) : sProp 𝕄 :=
  iprop(∃ f : Buf (Elt F) ((c : Thread nD τ).loc cc0_scratch0), ⌜AccOK xs ws c n f⌝ ∗ ((c : Thread nD τ).loc cc0_scratch0) ↦{fullShare} f)

/-- Where the block that hop `h + 1` adds lies among the computed rows. -/
theorem acc_off : ∀ (c : Dev nD) (b : Bool) (h : Fin 3) (s : Fin 4),
    accAt b s c (accW b h) = ![k0_off3 c (k0_off3_at (accIx b h)) 0, colN b s] ∧ k0_off3 c (k0_off3_at (accIx b h)) 1 = 0 := by decide +kernel

/-- A computed block read from the accumulator. -/
theorem acc_read (c : Dev nD) (b : Bool) (h : Fin 3) (s : Fin 4) (f : Vec F S2048x2048 .bf16) (hf : AccOK xs ws c 3 f) :
    (Memref.whole cc0_scratch0 : Memref sig .tc .vmem S2048x2048 .bf16).view.readAt (Elt F) (accRect c b h s).toLoadRect f = accB xs ws c b h s := by
  funext i
  unfold accB
  rw [← hf (accIx b h) (accIx b h).isLt]
  show f _ = f _
  congr 1
  funext a
  obtain ⟨h0, h1⟩ := acc_off c b h s
  refine Fin.ext ?_
  match a with
  | 0 =>
    show accAt b s c (accW b h) 0 + 1 * (i 0).val = k0_off3 c (k0_off3_at (accIx b h)) 0 + 1 * (i 0).val
    rw [h0]; rfl
  | 1 =>
    show accAt b s c (accW b h) 1 + 1 * (i 1).val = k0_off3 c (k0_off3_at (accIx b h)) 1 + 1 * (colN b s + (i 1).val)
    rw [h0, h1]
    show colN b s + 1 * (i 1).val = 0 + 1 * (colN b s + (i 1).val)
    omega

/-- Reading a block of the accumulator. -/
theorem acc_run (c : Dev nD) (b : Bool) (h : Fin 3) (s : Fin 4) (Q : Vec F S512x256 .bf16 → sProp 𝕄) :
    iprop(accOwn xs ws c 3 ∗ (accOwn xs ws c 3 -∗ Q (accB xs ws c b h s))) ⊢ run c (getAcc c b h s) Q := by
  unfold getAcc accOwn
  simp only [Prog.lift]
  iintro ⟨⟨%f, %hf, H⟩, Hk⟩
  iapply (wp_load 𝒱₀ (c : Thread nD τ) none Set.univ (m := (Memref.whole cc0_scratch0 : Memref sig .tc .vmem S2048x2048 .bf16)) (Finset.subset_univ _)) $$ H
  iintro H
  rw [wp_ret]; imodintro
  rw [acc_read xs ws c b h s f hf]
  iapply Hk
  iexists f
  isplitr
  · ipureintro; exact hf
  · iexact H

/-! ## Transfers and waits -/

/-- What device `c` owes at a stage, whatever it has waited for. -/
def owe (c : Dev nD) (n : ℕ) : sProp 𝕄 := iprop(∃ W, owes (c : Thread nD τ) (owed c n) W)

/-- A send's credit. -/
def sCred (c : Dev nD) (h : Fin 6) (b : Bool) (s : Fin 4) : sProp 𝕄 := cred (tallyAt (sC c h b s) () N)
/-- A copy's credit. -/
def oCred (c : Dev nD) (g : Fin 4) (b : Bool) (s : Fin 4) : sProp 𝕄 := cred (tallyAt (oC c g b s) () N)
/-- What a send uses up besides the slot it reads. -/
def sTok (c : Dev nD) (h : Fin 6) (b : Bool) (s : Fin 4) : sProp 𝕄 :=
  iprop(dutyTok ER (sC c h b s) 0 false ∗ dutyTok ER (rC (peer b c) h b s) 0 false ∗ any (peer b c) (rSl b (sl24 h s)))
/-- What a copy uses up besides the slot it reads. -/
def oTok (c : Dev nD) (g : Fin 4) (b : Bool) (s : Fin 4) : sProp 𝕄 :=
  iprop(dutyTok ER (oC c g b s) 0 false ∗ any c (oBlk c b g s))
/-- What the wait for an arrival uses up. -/
def rTok (c : Dev nD) (h : Fin 6) (b : Bool) (s : Fin 4) : sProp 𝕄 :=
  iprop(cred (tallyAt (rC c h b s) () N) ∗ atPos ER (rC c h b s) 0 ∅ 0)

/-- Sending a slot. -/
theorem send_run (c : Dev nD) (b : Bool) (h : Fin 6) (s : Fin 4) (n : ℕ) (hn : owed c (n + 1) = owed c n + tallyAt (rC (peer b c) h b s) () N)
    (src : Memref sig .tc .vmem S1x512x256 .bf16) (q : PosShare TreeShare) (X : Vec F S1x512x256 .bf16)
    (hsrc : own c src q X ⊢ pay xs ws c (some (.inl h, b, s)) false) (hX : X = V xs ws h.val c b s)
    {h1 : (src.squeeze S512x256 squeezes_S1x512x256_S512x256).view.WordExact} {h2 : (rSq b (sl24 h s)).view.WordExact} {h0} {h3} (Q : PUnit → sProp 𝕄) :
    iprop(Ctx xs ws K ∗ sTok c h b s ∗ own c src q X ∗ owe c (n + 1) ∗ (sCred c h b s ∗ owe c n -∗ Q ⟨⟩))
      ⊢ run c (Prog.lift (.enqueueDma (src.squeeze S512x256 squeezes_S1x512x256_S512x256)
          (.remote (Dev.tc (peer b c)) (rSq b (sl24 h s)) (.dma (sSem b (sl24 h s))) h0) (.dma (rSem b (sl24 h s))) h1 h2 h3)) Q := by
  unfold sTok owe sCred any
  simp only [Prog.lift]
  iintro ⟨#HC, ⟨HtS, HtR, %Y, Hd⟩, Hs, ⟨%W, HO⟩, Hk⟩
  unfold own owns
  icases Hs with ⟨%fs, %hfs, Hs⟩
  icases Hd with ⟨%fd, %hfd, Hd⟩
  iapply (Rounds.wp_send_pointsTo 𝒱₀ ER (Rd xs ws) (c : Thread nD τ) none (c' := (peer b c : Thread nD τ))
      (src := src.squeeze S512x256 squeezes_S1x512x256_S512x256) (dst := rSq b (sl24 h s))
      (κ₁ := K (c, some (.inl h, b, s))) (κ₂ := K (peer b c, some (.inr (.inl h), b, s)))
      (r₁ := 0) (r₂ := 0) (d₁ := false) (d₂ := false) (fs := fs) (fd := fd) (q := q)
      (by rw [duties_dma xs ws c (.inl h, b, s)]; exact Finset.mem_singleton_self _)
      (by rw [duties_dma xs ws (peer b c) (.inr (.inl h), b, s)]; exact Finset.mem_singleton_self _)
      () () N rfl (amount_dma xs ws c (.inl h, b, s) false) (amount_dma xs ws (peer b c) (.inr (.inl h), b, s) false) (owed c n) hn (W := W)
      (by
        rw [payload_eq xs ws c (some (.inl h, b, s))]
        iintro H
        iapply hsrc
        unfold own owns
        iexists fs; isplitr
        · ipureintro; exact hfs
        · rw [← set_sq src]; iexact H)
      (by
        rw [payload_eq xs ws (peer b c) (some (.inr (.inl h), b, s))]
        unfold pay own owns
        iintro H; iexists _; isplitr
        rotate_left
        · rw [← set_sq (rSl b (sl24 h s))]; iexact H
        · ipureintro
          rw [frm_peer, ← hX, read_sq, hfs]
          exact read_land (rSl b (sl24 h s)) fd X)) $$ [HtS HtR Hs Hd HO]
  · isplitr; · iapply (inv_at xs ws K c (some (.inl h, b, s))); iexact HC
    isplitr; · iapply (inv_at xs ws K (peer b c) (some (.inr (.inl h), b, s))); iexact HC
    isplitl [Hs]; · rw [set_sq src]; iexact Hs
    isplitl [Hd]; · rw [set_sq (rSl b (sl24 h s))]; iexact Hd
    isplitl [HO]; · iexact HO
    isplitl [HtS]; · iexact HtS
    isplitr; · iapply (reached_at xs ws K c (some (.inl h, b, s))); iexact HC
    isplitl [HtR]; · iexact HtR
    iapply (reached_at xs ws K (peer b c) (some (.inr (.inl h), b, s))); iexact HC
  iintro ⟨Hc, HO⟩
  rw [wp_ret]; imodintro
  iapply Hk
  isplitl [Hc]; · iexact Hc
  iexists W; iexact HO

/-- Copying a slot to the result. -/
theorem out_run (c : Dev nD) (b : Bool) (g s : Fin 4) (src : Memref sig .tc .vmem S1x512x256 .bf16) (q : PosShare TreeShare) (X : Vec F S1x512x256 .bf16)
    (hsrc : own c src q X ⊢ own c (outM b g s) (outQ g) (V xs ws (g.val + 3) c b s)) (hX : X = V xs ws (g.val + 3) c b s)
    {h1 : (src.squeeze S512x256 squeezes_S1x512x256_S512x256).view.WordExact} {h2 : (oBlk c b g s).view.WordExact} {h3} (Q : PUnit → sProp 𝕄) :
    iprop(Ctx xs ws K ∗ oTok c g b s ∗ own c src q X ∗ (oCred c g b s -∗ Q ⟨⟩))
      ⊢ run c (Prog.lift (.enqueueDma (src.squeeze S512x256 squeezes_S1x512x256_S512x256) (.here (oBlk c b g s)) (.dma (oSem b (sl16 g s))) h1 h2 h3)) Q := by
  unfold oTok oCred any
  simp only [Prog.lift]
  iintro ⟨#HC, ⟨Ht, %Y, Hd⟩, Hs, Hk⟩
  unfold own owns
  icases Hs with ⟨%fs, %hfs, Hs⟩
  icases Hd with ⟨%fd, %hfd, Hd⟩
  iapply (Rounds.wp_copy_pointsTo 𝒱₀ ER (Rd xs ws) (c : Thread nD τ) none
      (src := src.squeeze S512x256 squeezes_S1x512x256_S512x256) (dst := oBlk c b g s)
      (κ := K (c, some (.inr (.inr g), b, s))) (r := 0) (d := false) (fs := fs) (fd := fd) (q := q)
      (by rw [duties_dma xs ws c (.inr (.inr g), b, s)]; exact Finset.mem_singleton_self _)
      () N rfl (amount_dma xs ws c (.inr (.inr g), b, s) false)
      (by
        rw [payload_eq xs ws c (some (.inr (.inr g), b, s))]
        unfold pay
        iintro ⟨Hd, Hs⟩
        isplitl [Hd]
        · unfold own owns
          iexists _; isplitr
          rotate_left
          · iexact Hd
          · ipureintro
            rw [View.read_write_univ, read_sq, hfs, hX]
        · iapply hsrc
          unfold own owns
          iexists fs; isplitr
          · ipureintro; exact hfs
          · rw [← set_sq src]; iexact Hs)) $$ [Ht Hs Hd]
  · isplitr; · iapply (inv_at xs ws K c (some (.inr (.inr g), b, s))); iexact HC
    isplitl [Hs]; · rw [set_sq src]; iexact Hs
    isplitl [Hd]; · iexact Hd
    isplitl [Ht]; · iexact Ht
    iapply (reached_at xs ws K c (some (.inr (.inr g), b, s))); iexact HC
  iintro Hc
  rw [wp_ret]; imodintro
  iapply Hk
  iexact Hc

/-- Waiting for a transfer: what it carries, and its semaphore done with. -/
theorem wait_run (c : Dev nD) (k : Kind) (n : ℕ) (hw : (levAts L lv : sProp 𝕄) ⊢ MayWait (c : Thread nD τ) (csem (some k)) () (owed c n))
    {sp sp' : Space} {sh sh' : Shape} {e e' : EltTy} {src : Memref sig .tc sp' sh' e'} {dst : Memref sig .tc sp sh e}
    (hd : dst.view.dmaCredit = N) {h1 : src.view.WordExact} {h2 : dst.view.WordExact} (Q : PUnit → sProp 𝕄) :
    iprop(Ctx xs ws K ∗ cred (tallyAt (kcell c (some k)) () N) ∗ atPos ER (kcell c (some k)) 0 ∅ 0 ∗ owe c n
        ∗ ((semVal (kcell c (some k)) 0 ∗ pay xs ws c (some k) false) ∗ owe c n -∗ Q ⟨⟩))
      ⊢ run c (Prog.lift (.waitDma2 (dsem k) src dst h1 h2)) Q := by
  unfold owe
  simp only [Prog.lift]
  iintro ⟨#HC, Hc, Hat, ⟨%W, HO⟩, Hk⟩
  iapply (Rounds.wp_wait_rest_token 𝒱₀ ER (Rd xs ws) (c : Thread nD τ) none (κ := K (c, some k)) (sm := csem (some k)) (k' := dst.view.dmaCredit)
      (wpE_waitDma2_eq 𝒱₀ (c : Thread nD τ) none Set.univ) (Set.mem_univ _) () (O := owed c n) (W := W) (R := 0) (m := 0) (T := ∅)
      (by rw [Nat.zero_add, expect_dma, hd])) $$ [Hc Hat HO]
  · isplitr; · iapply (inv_at xs ws K c (some k)); iexact HC
    isplitl [Hc]; · rw [hd]; iexact Hc
    isplitl [HO]; · iexact HO
    isplitr; · iapply hw; iapply (lev_at xs ws K); iexact HC
    iexact Hat
  iintro ⟨HO, Hat, -, Hp⟩
  imod (Rounds.cell_close ER (Rd xs ws) (Set.mem_univ (K (c, some k))) (fun h => h) (R := 0 + 1) (duties_later xs ws (kcell c (some k)))) $$ [Hat] with Hz
  · isplitr; · iapply (inv_at xs ws K c (some k)); iexact HC
    iexact Hat
  rw [wp_ret]; imodintro
  iapply Hk
  isplitr [HO]
  · isplitl [Hz]; · iexact Hz
    iapply (Entails.of_eq (rest_dma xs ws c k)); iexact Hp
  · iexists _; iexact HO

end Cert.KernelIdeal.Own
-- ==== Proof.Steps.lean ====
/- The kernel's steps: what each needs over its column and what it leaves there. -/
module

public import proofs.«01_k».proof.Proof.Ops

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S2048x512 .bf16) (ws : Dev nD → Vec F S512x2048 .bf16) (K : Dev nD × Option Kind → ℕ)

/-- A program in two parts. -/
theorem run_bind {α β : Type} (c : Dev nD) (p : Pr F α) (k : α → Pr F β) (Q : β → sProp 𝕄) :
    run c (p >>= k) Q = run c p fun a => run c (k a) Q := wp_bind _ _ _ p k Q

/-- A finished transfer: its semaphore at zero. -/
def fin (c : Dev nD) (k : Kind) : sProp 𝕄 := semVal (kcell c (some k)) 0
/-- A finished transfer and what it carried. -/
def got (c : Dev nD) (k : Kind) : sProp 𝕄 := iprop(fin c k ∗ pay xs ws c (some k) false)
/-- What the wait at the end for a transfer uses up besides its credit. -/
def pos (c : Dev nD) (k : Kind) : sProp 𝕄 := atPos ER (kcell c (some k)) 0 ∅ 0

/-- What is owed before the transfer of hop `h` over a column is sent. -/
theorem owed_send (c : Dev nD) (h : Fin 6) (b : Bool) (s : Fin 4) (n : ℕ) (hn : n + 8 * h.val + 2 * s.val + b.toNat = 47) :
    owed c (n + 1) = owed c n + tallyAt (rC (peer b c) h b s) () N := by
  show owed c n + tallyAt (dueC c ⟨47 - n, _⟩) () N = _
  congr 2
  have e0 : (47 - n) % 2 = b.toNat := by cases b <;> simp at hn ⊢ <;> omega
  have eb : ((47 - n) % 2 == 1) = b := by rw [e0]; cases b <;> rfl
  have eh : (⟨(47 - n) / 8, by omega⟩ : Fin 6) = h := Fin.ext (by cases b <;> simp at hn ⊢ <;> omega)
  have es : (⟨(47 - n) % 8 / 2, by omega⟩ : Fin 4) = s := Fin.ext (by cases b <;> simp at hn ⊢ <;> omega)
  show rC (peer ((47 - n) % 2 == 1) c) ⟨(47 - n) / 8, _⟩ ((47 - n) % 2 == 1) ⟨(47 - n) % 8 / 2, _⟩ = _
  rw [eb, eh, es]

/-- The first hop. -/
theorem stA_run (c : Dev nD) (b : Bool) (s : Fin 4) (n : ℕ) (hn : n + 2 * s.val + b.toNat = 47) :
    iprop(Ctx xs ws K ∗ (sTok c 0 b s ∗ any c (sSl b (sl16 0 s))) ∗ wOwn ws c ∗ owe c (n + 1))
      ⊢ run c (stA c (xOwn xs c) b s) fun _ => iprop(sCred c 0 b s ∗ wOwn ws c ∗ owe c n) := by
  unfold stA
  rw [run_bind]
  iintro ⟨#HC, ⟨Ht, Hs⟩, Hw, HO⟩
  iapply (col_run ws c b s)
  isplitl [Hw]; · iexact Hw
  iintro Hw
  rw [run_bind]
  iapply (put_run c b (sl16 0 s))
  isplitl [Hs]; · iexact Hs
  iintro Hs
  iapply (send_run xs ws K c b 0 s n (owed_send c 0 b s n (by simpa using hn)) (sSl b (sl16 0 s)) fullShare _ (BI.Entails.refl _) rfl)
  isplitr; · iexact HC
  isplitl [Ht]; · iexact Ht
  isplitl [Hs]; · iexact Hs
  isplitl [HO]; · iexact HO
  iintro ⟨Hc, HO⟩
  isplitl [Hc]; · iexact Hc
  isplitl [Hw]; · iexact Hw
  iexact HO

/-- A slot's own number is a block's size. -/
theorem credit_slot (b : Bool) (k : Fin 24) : (rSq b k).view.dmaCredit = N := by cases b <;> rfl

/-- Waiting for an arrival. -/
theorem arrive_run (c : Dev nD) (h : Fin 6) (b : Bool) (s : Fin 4) (n : ℕ) (hn : n + 8 * (h.val + 1) ≤ 48)
    {sp : Space} {sh : Shape} {e : EltTy} {src : Memref sig .tc sp sh e} {h1 : src.view.WordExact} (Q : PUnit → sProp 𝕄) :
    iprop(Ctx xs ws K ∗ rTok c h b s ∗ owe c n
        ∗ ((fin c (.inr (.inl h), b, s) ∗ own c (rSl b (sl24 h s)) fullShare (V xs ws h.val (frm b c) b s)) ∗ owe c n -∗ Q ⟨⟩))
      ⊢ run c (Prog.lift (.waitDma2 (rSem b (sl24 h s)) src (rSq b (sl24 h s)) h1 (rSq_words b (sl24 h s)))) Q := by
  unfold rTok fin
  iintro ⟨#HC, ⟨Hcr, Hat⟩, HO, Hk⟩
  iapply (wait_run xs ws K c (.inr (.inl h), b, s) n (mayWait_recv c h b s n hn) (credit_slot b _))
  isplitr; · iexact HC
  isplitl [Hcr]; · iexact Hcr
  isplitl [Hat]; · iexact Hat
  isplitl [HO]; · iexact HO
  rw [show pay xs ws c (some (.inr (.inl h), b, s)) false = own c (rSl b (sl24 h s)) fullShare (V xs ws h.val (frm b c) b s) from rfl]
  iexact Hk

/-- The second and third hops. -/
theorem stB_run (c : Dev nD) (h : Fin 2) (b : Bool) (s : Fin 4) (n : ℕ) (hn : n + 8 * (h.val + 1) + 2 * s.val + b.toNat = 47) :
    iprop(Ctx xs ws K ∗ (rTok c (h.castLE (by omega)) b s ∗ sTok c (h.succ.castLE (by omega)) b s ∗ any c (sSl b (sl16 h.succ.castSucc s)))
        ∗ accOwn xs ws c 3 ∗ owe c (n + 1))
      ⊢ run c (stB c h b s) fun _ => iprop(((fin c (.inr (.inl (h.castLE (by omega))), b, s) ∗ any c (rSl b (sl24 (h.castLE (by omega)) s)))
          ∗ sCred c (h.succ.castLE (by omega)) b s) ∗ accOwn xs ws c 3 ∗ owe c n) := by
  unfold stB waitS
  rw [run_bind]
  iintro ⟨#HC, ⟨Hrt, Ht, Hs⟩, Hacc, HO⟩
  iapply (arrive_run xs ws K c (h.castLE _) b s (n + 1) (by have := h.isLt; show n + 1 + 8 * (h.val + 1) ≤ 48; omega))
  isplitr; · iexact HC
  isplitl [Hrt]; · iexact Hrt
  isplitl [HO]; · iexact HO
  iintro ⟨⟨Hz, Hp⟩, HO⟩
  rw [run_bind]
  iapply (get_run c b _ (V xs ws h.val (frm b c) b s))
  isplitl [Hp]; · iexact Hp
  iintro Hp
  rw [run_bind]
  iapply (acc_run xs ws c b h.castSucc s)
  isplitl [Hacc]; · iexact Hacc
  iintro Hacc
  rw [run_bind]
  iapply (put_run c b (sl16 h.succ.castSucc s))
  isplitl [Hs]; · iexact Hs
  iintro Hs
  iapply (send_run xs ws K c b (h.succ.castLE (by omega)) s n (owed_send c _ b s n (by simpa using hn)) (sSl b (sl16 h.succ.castSucc s)) fullShare
    (payAdd (V xs ws h.val (frm b c) b s) (accB xs ws c b h.castSucc s))
    (by
      match h with
      | 0 => exact BI.Entails.refl _
      | 1 => exact BI.Entails.refl _)
    (by
      match h with
      | 0 => rfl
      | 1 => rfl))
  isplitr; · iexact HC
  isplitl [Ht]; · iexact Ht
  isplitl [Hs]; · iexact Hs
  isplitl [HO]; · iexact HO
  iintro ⟨Hc, HO⟩
  isplitr [Hacc HO]
  · isplitr [Hc]
    · isplitl [Hz]; · iexact Hz
      iapply (any_intro c _ _); iexact Hp
    · iexact Hc
  isplitl [Hacc]; · iexact Hacc
  iexact HO

/-- The fourth hop. -/
theorem stC_run (c : Dev nD) (b : Bool) (s : Fin 4) (n : ℕ) (hn : n + 24 + 2 * s.val + b.toNat = 47) :
    iprop(Ctx xs ws K ∗ (rTok c 2 b s ∗ sTok c 3 b s ∗ oTok c 0 b s ∗ any c (sSl b (sl16 3 s))) ∗ accOwn xs ws c 3 ∗ owe c (n + 1))
      ⊢ run c (stC c b s) fun _ => iprop(((fin c (.inr (.inl 2), b, s) ∗ any c (rSl b (sl24 2 s))) ∗ sCred c 3 b s ∗ oCred c 0 b s)
          ∗ accOwn xs ws c 3 ∗ owe c n) := by
  unfold stC waitS
  rw [run_bind]
  iintro ⟨#HC, ⟨Hrt, Ht, Hto, Hs⟩, Hacc, HO⟩
  iapply (arrive_run xs ws K c 2 b s (n + 1) (by show n + 1 + 8 * (2 + 1) ≤ 48; omega))
  isplitr; · iexact HC
  isplitl [Hrt]; · iexact Hrt
  isplitl [HO]; · iexact HO
  iintro ⟨⟨Hz, Hp⟩, HO⟩
  rw [run_bind]
  iapply (get_run c b _ (V xs ws 2 (frm b c) b s))
  isplitl [Hp]; · iexact Hp
  iintro Hp
  rw [run_bind]
  iapply (acc_run xs ws c b 2 s)
  isplitl [Hacc]; · iexact Hacc
  iintro Hacc
  rw [run_bind]
  iapply (put_run c b (sl16 3 s))
  isplitl [Hs]; · iexact Hs
  iintro Hs
  ihave Hs2 := (owns_halves (c : Thread nD τ) (sSl b (sl16 3 s)) fullShare _).1 $$ Hs
  icases Hs2 with ⟨Hl, Hr⟩
  rw [run_bind]
  iapply (send_run xs ws K c b 3 s n (owed_send c 3 b s n (by simpa using hn)) (sSl b (sl16 3 s)) fullShare.left
    (V xs ws 3 c b s) (BI.Entails.refl _) rfl)
  isplitr; · iexact HC
  isplitl [Ht]; · iexact Ht
  isplitl [Hl]; · iexact Hl
  isplitl [HO]; · iexact HO
  iintro ⟨Hc, HO⟩
  iapply (out_run xs ws K c b 0 s (sSl b (sl16 3 s)) fullShare.right (V xs ws 3 c b s) (BI.Entails.refl _) rfl)
  isplitr; · iexact HC
  isplitl [Hto]; · iexact Hto
  isplitl [Hr]; · iexact Hr
  iintro Hco
  isplitr [Hacc HO]
  · isplitr [Hc Hco]
    · isplitl [Hz]; · iexact Hz
      iapply (any_intro c _ _); iexact Hp
    · isplitl [Hc]; · iexact Hc
      iexact Hco
  isplitl [Hacc]; · iexact Hacc
  iexact HO

/-- A forwarding hop: what arrived is sent on and copied out. -/
theorem fwd_run (c : Dev nD) (h h' : Fin 6) (g : Fin 4) (hh : h'.val = h.val + 1) (hg : h.val = g.val + 2) (h3 : 3 ≤ h.val)
    (b : Bool) (s : Fin 4) (n : ℕ) (hn : n + 8 * h'.val + 2 * s.val + b.toNat = 47)
    (e1 : srcM b h' s = rSl b (sl24 h s)) (e2 : srcQ h' = fullShare.left) (e3 : outM b g s = rSl b (sl24 h s)) (e4 : outQ g = fullShare.right)
    {sp : Space} {sh : Shape} {e : EltTy} {src : Memref sig .tc sp sh e} {h1 : src.view.WordExact} :
    iprop(Ctx xs ws K ∗ (rTok c h b s ∗ sTok c h' b s ∗ oTok c g b s) ∗ owe c (n + 1))
      ⊢ run c (do
          Prog.lift (.waitDma2 (rSem b (sl24 h s)) src (rSq b (sl24 h s)) h1 (rSq_words b (sl24 h s)))
          sendR c b (sl24 h s) (sl24 h' s)
          outR c b (sl24 h s) g s : Pr F PUnit)
        fun _ => iprop((fin c (.inr (.inl h), b, s) ∗ sCred c h' b s ∗ oCred c g b s) ∗ owe c n) := by
  have eV : V xs ws h'.val c b s = V xs ws h.val (frm b c) b s := by
    obtain ⟨k, hk⟩ : ∃ k, h.val = k + 3 := ⟨h.val - 3, by omega⟩
    rw [hh, hk]; rfl
  have eV' : V xs ws (g.val + 3) c b s = V xs ws h.val (frm b c) b s := by rw [← eV, hh, hg]
  unfold sendR outR
  rw [run_bind]
  iintro ⟨#HC, ⟨Hrt, Ht, Hto⟩, HO⟩
  iapply (arrive_run xs ws K c h b s (n + 1) (by omega))
  isplitr; · iexact HC
  isplitl [Hrt]; · iexact Hrt
  isplitl [HO]; · iexact HO
  iintro ⟨⟨Hz, Hp⟩, HO⟩
  ihave Hs2 := (owns_halves (c : Thread nD τ) (rSl b (sl24 h s)) fullShare (V xs ws h.val (frm b c) b s)).1 $$ Hp
  icases Hs2 with ⟨Hl, Hr⟩
  rw [run_bind]
  iapply (send_run xs ws K c b h' s n (owed_send c h' b s n hn) (rSl b (sl24 h s)) fullShare.left (V xs ws h.val (frm b c) b s)
    (by show _ ⊢ own c (srcM b h' s) (srcQ h') (V xs ws h'.val c b s); rw [e1, e2, eV]) eV.symm)
  isplitr; · iexact HC
  isplitl [Ht]; · iexact Ht
  isplitl [Hl]; · iexact Hl
  isplitl [HO]; · iexact HO
  iintro ⟨Hc, HO⟩
  iapply (out_run xs ws K c b g s (rSl b (sl24 h s)) fullShare.right (V xs ws h.val (frm b c) b s) (by rw [e3, e4, eV']) eV'.symm)
  isplitr; · iexact HC
  isplitl [Hto]; · iexact Hto
  isplitl [Hr]; · iexact Hr
  iintro Hco
  isplitr [HO]
  · isplitl [Hz]; · iexact Hz
    isplitl [Hc]; · iexact Hc
    iexact Hco
  iexact HO

/-- The fifth hop. -/
theorem stD_run (c : Dev nD) (b : Bool) (s : Fin 4) (n : ℕ) (hn : n + 32 + 2 * s.val + b.toNat = 47) :
    iprop(Ctx xs ws K ∗ (rTok c 3 b s ∗ sTok c 4 b s ∗ oTok c 1 b s) ∗ owe c (n + 1))
      ⊢ run c (stD c b s) fun _ => iprop((fin c (.inr (.inl 3), b, s) ∗ sCred c 4 b s ∗ oCred c 1 b s) ∗ owe c n) :=
  fwd_run xs ws K c 3 4 1 rfl rfl (by decide) b s n hn rfl rfl rfl rfl

/-- The sixth hop. -/
theorem stE_run (c : Dev nD) (b : Bool) (s : Fin 4) (n : ℕ) (hn : n + 40 + 2 * s.val + b.toNat = 47) :
    iprop(Ctx xs ws K ∗ (rTok c 4 b s ∗ sTok c 5 b s ∗ oTok c 2 b s) ∗ owe c (n + 1))
      ⊢ run c (stE c b s) fun _ => iprop((fin c (.inr (.inl 4), b, s) ∗ sCred c 5 b s ∗ oCred c 2 b s) ∗ owe c n) :=
  fwd_run xs ws K c 4 5 2 rfl rfl (by decide) b s n hn rfl rfl rfl rfl

/-- The last arrivals. -/
theorem stF_run (c : Dev nD) (b : Bool) (s : Fin 4) :
    iprop(Ctx xs ws K ∗ (rTok c 5 b s ∗ oTok c 3 b s) ∗ owe c 0)
      ⊢ run c (stF c b s) fun _ => iprop((fin c (.inr (.inl 5), b, s) ∗ oCred c 3 b s) ∗ owe c 0) := by
  unfold stF waitR outR
  rw [run_bind]
  iintro ⟨#HC, ⟨Hrt, Hto⟩, HO⟩
  iapply (arrive_run xs ws K c 5 b s 0 (by decide))
  isplitr; · iexact HC
  isplitl [Hrt]; · iexact Hrt
  isplitl [HO]; · iexact HO
  iintro ⟨⟨Hz, Hp⟩, HO⟩
  iapply (out_run xs ws K c b 3 s (rSl b (sl24 5 s)) fullShare (V xs ws 5 (frm b c) b s) (BI.Entails.refl _) rfl)
  isplitr; · iexact HC
  isplitl [Hto]; · iexact Hto
  isplitl [Hp]; · iexact Hp
  iintro Hco
  isplitr [HO]
  · isplitl [Hz]; · iexact Hz
    iexact Hco
  iexact HO

/-- A wait at the end. -/
theorem drain_run (c : Dev nD) (k : Kind)
    {sp sp' : Space} {sh sh' : Shape} {e e' : EltTy} {src : Memref sig .tc sp' sh' e'} {dst : Memref sig .tc sp sh e}
    (hd : dst.view.dmaCredit = N) {h1 : src.view.WordExact} {h2 : dst.view.WordExact} :
    iprop(Ctx xs ws K ∗ (cred (tallyAt (kcell c (some k)) () N) ∗ pos c k) ∗ owe c 0)
      ⊢ run c (Prog.lift (.waitDma2 (dsem k) src dst h1 h2)) fun _ => iprop(got xs ws c k ∗ owe c 0) := by
  unfold pos got fin
  iintro ⟨#HC, ⟨Hcr, Hat⟩, HO⟩
  iapply (wait_run xs ws K c k 0 (by rw [show owed c 0 = 0 from rfl, MayWait_zero]; iintro -; iempintro) hd)
  isplitr; · iexact HC
  isplitl [Hcr]; · iexact Hcr
  isplitl [Hat]; · iexact Hat
  isplitl [HO]; · iexact HO
  iintro H
  iexact H

/-! ## A step over all columns -/

/-- The columns in the order the kernel takes them. -/
theorem cols (Φ : Col → sProp 𝕄) : bigSep Finset.univ Φ
    = iprop(Φ (false, 0) ∗ Φ (true, 0) ∗ Φ (false, 1) ∗ Φ (true, 1) ∗ Φ (false, 2) ∗ Φ (true, 2) ∗ Φ (false, 3) ∗ Φ (true, 3)) :=
  bigSep_univ_eq_bigSepL [(false, 0), (true, 0), (false, 1), (true, 1), (false, 2), (true, 2), (false, 3), (true, 3)] (by decide) (by decide) Φ

/-- A step over all columns: each column's part in turn, something `P` being handed on from one to the next. -/
theorem ring8_run (c : Dev nD) (st : Bool → Fin 4 → Pr F PUnit) (R : sProp 𝕄) [BI.Persistent R] (A B : Col → sProp 𝕄) (P : ℕ → sProp 𝕄)
    (hst : ∀ b s, iprop(R ∗ A (b, s) ∗ P (2 * s.val + b.toNat)) ⊢ run c (st b s) fun _ => iprop(B (b, s) ∗ P (2 * s.val + b.toNat + 1)))
    (Q : PUnit → sProp 𝕄) :
    iprop(R ∗ bigSep Finset.univ A ∗ P 0 ∗ (bigSep Finset.univ B ∗ P 8 -∗ Q ⟨⟩)) ⊢ run c (ring8 st) Q := by
  have go : ∀ (b : Bool) (s : Fin 4) (i j : ℕ) (_ : 2 * s.val + b.toNat = i) (_ : i + 1 = j) (Q' : PUnit → sProp 𝕄),
      iprop(R ∗ A (b, s) ∗ P i ∗ (B (b, s) ∗ P j -∗ Q' ⟨⟩)) ⊢ run c (st b s) Q' := by
    rintro b s i j rfl rfl Q'
    iintro ⟨#HR, HA, HP, Hk⟩
    iapply (wp_wand_r frame (wpE (defs₀ (F := F)) 𝒱₀ (c : Thread nD τ) none) Set.univ)
    isplitl [HA HP]
    · iapply (hst b s)
      isplitr; · iexact HR
      isplitl [HA]; · iexact HA
      iexact HP
    · iintro %a H
      iapply Hk
      iexact H
  unfold ring8
  rw [cols, cols]
  iintro ⟨#HR, ⟨A0, A1, A2, A3, A4, A5, A6, A7⟩, HP, Hk⟩
  rw [run_bind]
  iapply (go false 0 0 1 rfl rfl); isplitr; · iexact HR
  isplitl [A0]; · iexact A0
  isplitl [HP]; · iexact HP
  iintro ⟨B0, HP⟩
  rw [run_bind]
  iapply (go true 0 1 2 rfl rfl); isplitr; · iexact HR
  isplitl [A1]; · iexact A1
  isplitl [HP]; · iexact HP
  iintro ⟨B1, HP⟩
  rw [run_bind]
  iapply (go false 1 2 3 rfl rfl); isplitr; · iexact HR
  isplitl [A2]; · iexact A2
  isplitl [HP]; · iexact HP
  iintro ⟨B2, HP⟩
  rw [run_bind]
  iapply (go true 1 3 4 rfl rfl); isplitr; · iexact HR
  isplitl [A3]; · iexact A3
  isplitl [HP]; · iexact HP
  iintro ⟨B3, HP⟩
  rw [run_bind]
  iapply (go false 2 4 5 rfl rfl); isplitr; · iexact HR
  isplitl [A4]; · iexact A4
  isplitl [HP]; · iexact HP
  iintro ⟨B4, HP⟩
  rw [run_bind]
  iapply (go true 2 5 6 rfl rfl); isplitr; · iexact HR
  isplitl [A5]; · iexact A5
  isplitl [HP]; · iexact HP
  iintro ⟨B5, HP⟩
  rw [run_bind]
  iapply (go false 3 6 7 rfl rfl); isplitr; · iexact HR
  isplitl [A6]; · iexact A6
  isplitl [HP]; · iexact HP
  iintro ⟨B6, HP⟩
  iapply (go true 3 7 8 rfl rfl); isplitr; · iexact HR
  isplitl [A7]; · iexact A7
  isplitl [HP]; · iexact HP
  iintro ⟨B7, HP⟩
  iapply Hk
  isplitr [HP]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  · iexact HP

end Cert.KernelIdeal.Own
-- ==== Proof.Whole.lean ====
/- The kernel's body as a whole on one device: from its tokens, slots and staged blocks to the result. -/
module

public import proofs.«01_k».proof.Proof.Steps

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S2048x512 .bf16) (ws : Dev nD → Vec F S512x2048 .bf16) (K : Dev nD × Option Kind → ℕ)

/-! ## Over all columns -/

/-- Something for every column. -/
abbrev BS (Φ : Col → sProp 𝕄) : sProp 𝕄 := bigSep Finset.univ Φ

/-- Two things for every column, put together; -/
theorem mk2 (Φ Ψ : Col → sProp 𝕄) : iprop(BS Φ ∗ BS Ψ) ⊢ BS fun k => iprop(Φ k ∗ Ψ k) := Entails.of_eq (bigSep_sep _ _ _).symm
/-- and taken apart. -/
theorem un2 (Φ Ψ : Col → sProp 𝕄) : (BS fun k => iprop(Φ k ∗ Ψ k)) ⊢ iprop(BS Φ ∗ BS Ψ) := Entails.of_eq (bigSep_sep _ _ _)
/-- Three things, put together; -/
theorem mk3 (Φ Ψ Χ : Col → sProp 𝕄) : iprop(BS Φ ∗ BS Ψ ∗ BS Χ) ⊢ BS fun k => iprop(Φ k ∗ Ψ k ∗ Χ k) :=
  Entails.of_eq ((bigSep_sep _ _ _).trans (congrArg _ (bigSep_sep _ _ _))).symm
/-- and taken apart. -/
theorem un3 (Φ Ψ Χ : Col → sProp 𝕄) : (BS fun k => iprop(Φ k ∗ Ψ k ∗ Χ k)) ⊢ iprop(BS Φ ∗ BS Ψ ∗ BS Χ) :=
  Entails.of_eq ((bigSep_sep _ _ _).trans (congrArg _ (bigSep_sep _ _ _)))
/-- Four things, put together; -/
theorem mk4 (Φ Ψ Χ Ω : Col → sProp 𝕄) : iprop(BS Φ ∗ BS Ψ ∗ BS Χ ∗ BS Ω) ⊢ BS fun k => iprop(Φ k ∗ Ψ k ∗ Χ k ∗ Ω k) :=
  Entails.of_eq ((bigSep_sep _ _ _).trans (congrArg _ ((bigSep_sep _ _ _).trans (congrArg _ (bigSep_sep _ _ _))))).symm
/-- and taken apart. -/
theorem un4 (Φ Ψ Χ Ω : Col → sProp 𝕄) : (BS fun k => iprop(Φ k ∗ Ψ k ∗ Χ k ∗ Ω k)) ⊢ iprop(BS Φ ∗ BS Ψ ∗ BS Χ ∗ BS Ω) :=
  Entails.of_eq ((bigSep_sep _ _ _).trans (congrArg _ ((bigSep_sep _ _ _).trans (congrArg _ (bigSep_sep _ _ _)))))
/-- Three things, the first two of them paired. -/
theorem un31 (Φ Ψ Χ : Col → sProp 𝕄) : (BS fun k => iprop((Φ k ∗ Ψ k) ∗ Χ k)) ⊢ iprop((BS Φ ∗ BS Ψ) ∗ BS Χ) :=
  Entails.of_eq ((bigSep_sep _ _ _).trans (congrArg (fun x => iprop(x ∗ BS Χ)) (bigSep_sep _ _ _)))
/-- Column by column. -/
theorem mono (Φ Ψ : Col → sProp 𝕄) (h : ∀ b s, Φ (b, s) ⊢ Ψ (b, s)) : BS Φ ⊢ BS Ψ :=
  show bigSep Finset.univ Φ ⊢ bigSep Finset.univ Ψ from bigSep_mono fun k _ => h k.1 k.2

/-- Something for each of six. -/
theorem fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
/-- Something for each of four. -/
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- Something for each direction. -/
theorem dirs (Φ : Bool → sProp 𝕄) : bigSep Finset.univ Φ = iprop(Φ false ∗ Φ true) :=
  bigSep_univ_eq_bigSepL [false, true] (by decide) (by decide) Φ

/-- A stage that pays hop `h`'s arrivals, over all columns. -/
theorem stage_run (c : Dev nD) (st : Bool → Fin 4 → Pr F PUnit) (h : ℕ) (hh : h < 6) (A B : Col → sProp 𝕄) (P : ℕ → sProp 𝕄)
    (hst : ∀ b s n, n + 8 * h + 2 * (s : Fin 4).val + b.toNat = 47 → iprop(Ctx xs ws K ∗ A (b, s) ∗ P (n + 1)) ⊢ run c (st b s) fun _ => iprop(B (b, s) ∗ P n))
    (Q : PUnit → sProp 𝕄) :
    iprop(Ctx xs ws K ∗ BS A ∗ P (48 - 8 * h) ∗ (BS B ∗ P (40 - 8 * h) -∗ Q ⟨⟩)) ⊢ run c (ring8 st) Q := by
  have h8 : 40 - 8 * h = 48 - 8 * h - 8 := by omega
  rw [h8]
  refine ring8_run c st (Ctx xs ws K) A B (fun i => P (48 - 8 * h - i)) (fun b s => ?_) Q
  have hb : b.toNat ≤ 1 := b.toNat_le
  have e : 48 - 8 * h - (2 * s.val + b.toNat) = (48 - 8 * h - (2 * s.val + b.toNat + 1)) + 1 := by omega
  show iprop(Ctx xs ws K ∗ A (b, s) ∗ P (48 - 8 * h - (2 * s.val + b.toNat))) ⊢ _
  rw [e]
  exact hst b s _ (by omega)

/-- A round of waits at the end, over all columns. -/
theorem drains_run (c : Dev nD) (st : Bool → Fin 4 → Pr F PUnit) (k : Fin 6 ⊕ Fin 6 ⊕ Fin 4)
    (hst : ∀ b s, iprop(Ctx xs ws K ∗ (cred (tallyAt (kcell c (some (k, b, s))) () N) ∗ pos c (k, b, s)) ∗ owe c 0)
      ⊢ run c (st b s) fun _ => iprop(got xs ws c (k, b, s) ∗ owe c 0)) (Q : PUnit → sProp 𝕄) :
    iprop(Ctx xs ws K ∗ (BS (fun j => cred (tallyAt (kcell c (some (k, j))) () N)) ∗ BS fun j => pos c (k, j)) ∗ owe c 0
        ∗ (BS (fun j => got xs ws c (k, j)) ∗ owe c 0 -∗ Q ⟨⟩)) ⊢ run c (ring8 st) Q := by
  iintro ⟨#HC, HA, HO, Hk⟩
  iapply (ring8_run c st (Ctx xs ws K) (fun j => iprop(cred (tallyAt (kcell c (some (k, j))) () N) ∗ pos c (k, j))) (fun j => got xs ws c (k, j)) (fun _ => owe c 0) hst Q)
  isplitr; · iexact HC
  isplitl [HA]; · iapply (mk2 _ _); iexact HA
  isplitl [HO]; · iexact HO
  iexact Hk

/-! ## The other products -/

/-- The row blocks computed lie apart. -/
theorem rows_apart : ∀ (c : Dev nD) (r r' : Fin 3), r ≠ r' →
    k0_off3 c (k0_off3_at r) 0 + 512 ≤ k0_off3 c (k0_off3_at r') 0 ∨ k0_off3 c (k0_off3_at r') 0 + 512 ≤ k0_off3 c (k0_off3_at r) 0 := by decide +kernel

/-- Offsets of nought. -/
theorem hz : (![0, 0] : Fin 2 → Nat) = fun _ => 0 := funext fun a => by fin_cases a <;> rfl

/-- A block just written; -/
theorem acc_same (r : Rect S2048x2048) (f : Vec F S2048x2048 .bf16) (v : Vec F r.shape .bf16) :
    (Memref.whole cc0_scratch0 : Memref sig .tc .vmem S2048x2048 .bf16).view.readAt (Elt F) r.toLoadRect
      (((Memref.whole cc0_scratch0 : Memref sig .tc .vmem S2048x2048 .bf16).access r).write (Elt F) f v Finset.univ) = v := by
  show ((Memref.whole cc0_scratch0 : Memref sig .tc .vmem S2048x2048 .bf16).access r).read (Elt F) _ = v
  exact View.read_write_univ (v := (Memref.whole cc0_scratch0 : Memref sig .tc .vmem S2048x2048 .bf16).access r) f v
/-- one left alone. -/
theorem acc_other (r r' : Rect S2048x2048) (e : ∀ i j, r.emb j ≠ r'.emb i) (f : Vec F S2048x2048 .bf16) (v : Vec F r.shape .bf16) :
    (Memref.whole cc0_scratch0 : Memref sig .tc .vmem S2048x2048 .bf16).view.readAt (Elt F) r'.toLoadRect
      (((Memref.whole cc0_scratch0 : Memref sig .tc .vmem S2048x2048 .bf16).access r).write (Elt F) f v Finset.univ)
      = (Memref.whole cc0_scratch0 : Memref sig .tc .vmem S2048x2048 .bf16).view.readAt (Elt F) r'.toLoadRect f := by
  funext i
  refine View.read_slice_write_of_not_mem (v := (Memref.whole cc0_scratch0 : Memref sig .tc .vmem S2048x2048 .bf16).view) r f v Finset.univ
    (y := r'.emb i) ?_
  rw [Finset.mem_map]
  rintro ⟨j, -, hj⟩
  exact e i j hj
/-- Different row blocks share nothing. -/
theorem rows_ne (c : Dev nD) (r r' : Fin 3) (e : r' ≠ r) : ∀ i j, (rowsAt c r).emb j ≠ (rowsAt c r').emb i := by
  intro i j hj
  have h0 : k0_off3 c (k0_off3_at r) 0 + 1 * (j 0).val = k0_off3 c (k0_off3_at r') 0 + 1 * (i 0).val := congrArg (fun y : S2048x2048.Idx => (y 0).val) hj
  have hj0 : (j 0).val < 512 := (j 0).isLt
  have hi0 : (i 0).val < 512 := (i 0).isLt
  have hr := rows_apart c r r' (Ne.symm e)
  generalize k0_off3 c (k0_off3_at r) 0 = A at h0 hr
  generalize k0_off3 c (k0_off3_at r') 0 = B at h0 hr
  omega

/-- One more row block computed. -/
theorem acc_step (c : Dev nD) (r : Fin 3) (f : Vec F S2048x2048 .bf16) (hf : AccOK xs ws c r.val f) :
    AccOK xs ws c (r.val + 1) (((Memref.whole cc0_scratch0 : Memref sig .tc .vmem S2048x2048 .bf16).access (rowsAt c r)).write (Elt F) f (accRows xs ws c r) Finset.univ) := by
  intro r' hr'
  by_cases e : r' = r
  · subst e
    exact acc_same (rowsAt c r') f _
  · exact (acc_other (rowsAt c r) (rowsAt c r') (rows_ne c r r' e) f _).trans (hf r' (by have := Fin.val_ne_of_ne e; omega))

/-- The staged activations. -/
def xAt (c : Dev nD) : sProp 𝕄 := ((c : Thread nD τ).loc cc0_stg0_0) ↦{fullShare} (xs c : Buf (Elt F) ((c : Thread nD τ).loc cc0_stg0_0))
/-- The staged weights. -/
def wAt (c : Dev nD) : sProp 𝕄 := ((c : Thread nD τ).loc cc0_stg1_0) ↦{fullShare} (ws c : Buf (Elt F) ((c : Thread nD τ).loc cc0_stg1_0))

/-- Computing one of the other row blocks. -/
theorem gemm_run (c : Dev nD) (r : Fin 3) (n : ℕ) (hn : n = r.val + 1) (Q : PUnit → sProp 𝕄) :
    iprop(xAt xs c ∗ wOwn ws c ∗ accOwn xs ws c r.val ∗ (xAt xs c ∗ wOwn ws c ∗ accOwn xs ws c n -∗ Q ⟨⟩))
      ⊢ run c (gemm (Memref.whole cc0_stg0_0 : Memref sig .tc .vmem S2048x512 .bf16) c r) Q := by
  subst hn
  unfold gemm xAt wOwn accOwn
  simp only [Prog.lift, Prog.bind_op, Prog.bind_ret]
  iintro ⟨Hx, Hw, ⟨%f, %hf, Ha⟩, Hk⟩
  iapply (wp_load 𝒱₀ (c : Thread nD τ) none Set.univ (m := (Memref.whole cc0_stg0_0 : Memref sig .tc .vmem S2048x512 .bf16)) (Finset.subset_univ _)) $$ Hx
  iintro Hx
  iapply (wp_load 𝒱₀ (c : Thread nD τ) none Set.univ (m := (Memref.whole cc0_scratch1 : Memref sig .tc .vmem S512x2048 .bf16)) (Finset.subset_univ _)) $$ Hw
  iintro Hw
  iapply (wp_load 𝒱₀ (c : Thread nD τ) none Set.univ (m := (Memref.whole cc0_scratch0 : Memref sig .tc .vmem S2048x2048 .bf16)) (Finset.subset_univ _)) $$ Ha
  iintro Ha
  iapply (wp_store 𝒱₀ (c : Thread nD τ) none Set.univ (m := (Memref.whole cc0_scratch0 : Memref sig .tc .vmem S2048x2048 .bf16)) (r := rowsAt c r) (Mk := Finset.univ) (Finset.subset_univ _)) $$ Ha
  iintro Ha
  rw [wp_ret]; imodintro
  iapply Hk
  isplitl [Hx]; · iexact Hx
  isplitl [Hw]; · iexact Hw
  iexists _
  isplitr
  rotate_left
  · iexact Ha
  · ipureintro
    refine (congrArg (fun v => AccOK xs ws c (r.val + 1)
      (((Memref.whole cc0_scratch0 : Memref sig .tc .vmem S2048x2048 .bf16).access (rowsAt c r)).write (Elt F) f v Finset.univ))
      (?_ : _ = accRows xs ws c r)).mpr (acc_step xs ws c r f hf)
    exact congrArg (k0_pay12 (xOther xs c r)) (Memref.readAt_unit_zero (Elt F) cc0_scratch1 hz _ _)

/-! ## The barrier -/

/-- What the barrier uses up. -/
def barTok (c : Dev nD) : sProp 𝕄 :=
  iprop(dutyTok ER (kcell (frm false c) none) 0 false ∗ dutyTok ER (kcell (frm true c) none) 0 true
    ∗ cred (tallyAt (kcell c none) () 2) ∗ atPos ER (kcell c none) 0 ∅ 0)

/-- What a device owes once it has signalled the first neighbour; -/
def O₁ (c : Dev nD) : CellTallies nD τ sig Unit := owed c 48 + tallyAt (kcell (frm true c) none) () 1
/-- at launch. -/
def O₀ (c : Dev nD) : CellTallies nD τ sig Unit := O₁ c + tallyAt (kcell (frm false c) none) () 1

/-- What a signal hands over. -/
theorem bar_pay (c : Dev nD) (b : Bool) : slots c b ⊢ (Rd xs ws).payload (kcell (frm b c) none) 0 b := by
  rw [payload_eq]; show _ ⊢ slots (peer b (frm b c)) b; rw [peer_frm]

/-- The barrier and the first loads. -/
theorem prologue_run (c : Dev nD) (Q : Vec F S512x512 .bf16 → sProp 𝕄) :
    iprop(Ctx xs ws K ∗ barTok c ∗ (∃ W, owes (c : Thread nD τ) (O₀ c) W) ∗ slots c false ∗ slots c true ∗ xAt xs c ∗ wAt ws c
        ∗ (∃ f : Buf (Elt F) ((c : Thread nD τ).loc cc0_scratch1), ((c : Thread nD τ).loc cc0_scratch1) ↦{fullShare} f)
        ∗ ((bigSep Finset.univ (fun b : Bool => slots (peer b c) b)) ∗ semVal (kcell c none) 0 ∗ owe c 48 ∗ xAt xs c ∗ wAt ws c ∗ wOwn ws c -∗ Q (xOwn xs c)))
      ⊢ run c (prologue (Memref.whole cc0_stg0_0 : Memref sig .tc .vmem S2048x512 .bf16) (Memref.whole cc0_stg1_0 : Memref sig .tc .vmem S512x2048 .bf16) c) Q := by
  unfold prologue barTok owe xAt wAt wOwn xOwn
  simp only [semSignalWord, semWaitWord, Prog.lift, Prog.bind_op, Prog.bind_ret]
  simp only [dev1_eq, dev2_eq]
  iintro ⟨#HC, ⟨Ht0, Ht1, Hcr, Hat⟩, ⟨%W, HO⟩, Hs0, Hs1, Hx, Hw, ⟨%f1, Hf⟩, Hk⟩
  iapply (Rounds.wp_signal 𝒱₀ ER (Rd xs ws) (c : Thread nD τ) none (dst := (frm false c : Thread nD τ)) (κ := K (frm false c, none))
      (r := 0) (d := false) (by rw [duties_bar]; exact Finset.mem_univ _) ((amount_bar xs ws (frm false c) false).trans (by decide)) () (O₁ c) rfl)
    $$ [HO Ht0 Hs0]
  · isplitr; · iapply (inv_at xs ws K (frm false c) none); iexact HC
    isplitl [HO]; · iexact HO
    isplitl [Ht0]; · iexact Ht0
    isplitl [Hs0]
    · iapply (bar_pay xs ws c false); iexact Hs0
    · iapply (reached_at xs ws K (frm false c) none); iexact HC
  iintro HO
  iapply (Rounds.wp_signal 𝒱₀ ER (Rd xs ws) (c : Thread nD τ) none (dst := (frm true c : Thread nD τ)) (κ := K (frm true c, none))
      (r := 0) (d := true) (by rw [duties_bar]; exact Finset.mem_univ _) ((amount_bar xs ws (frm true c) true).trans (by decide)) () (owed c 48) rfl)
    $$ [HO Ht1 Hs1]
  · isplitr; · iapply (inv_at xs ws K (frm true c) none); iexact HC
    isplitl [HO]; · iexact HO
    isplitl [Ht1]; · iexact Ht1
    isplitl [Hs1]
    · iapply (bar_pay xs ws c true); iexact Hs1
    · iapply (reached_at xs ws K (frm true c) none); iexact HC
  iintro HO
  iapply (Rounds.wp_wait_rest_token 𝒱₀ ER (Rd xs ws) (c : Thread nD τ) none (κ := K (c, none))
      (wpE_semWait_eq 𝒱₀ (c : Thread nD τ) none Set.univ) (Set.mem_univ _) () (O := owed c 48) (W := W) (R := 0) (m := 0) (T := ∅)
      (by rw [expect_bar]; decide)) $$ [Hcr HO Hat]
  · isplitr; · iapply (inv_at xs ws K c none); iexact HC
    isplitl [Hcr]; · iexact Hcr
    isplitl [HO]; · iexact HO
    isplitr; · iapply (mayWait_bar c 48); iapply (lev_at xs ws K); iexact HC
    iexact Hat
  iintro ⟨HO, Hat, -, Hp⟩
  imod (Rounds.cell_close ER (Rd xs ws) (Set.mem_univ (K (c, none))) (fun h => h) (R := 0 + 1) (duties_later xs ws (kcell c none))) $$ [Hat] with Hz
  · isplitr; · iapply (inv_at xs ws K c none); iexact HC
    iexact Hat
  iapply (wp_load 𝒱₀ (c : Thread nD τ) none Set.univ (m := (Memref.whole cc0_stg1_0 : Memref sig .tc .vmem S512x2048 .bf16)) (Finset.subset_univ _)) $$ Hw
  iintro Hw
  iapply (wp_load 𝒱₀ (c : Thread nD τ) none Set.univ (m := (Memref.whole cc0_scratch1 : Memref sig .tc .vmem S512x2048 .bf16)) (Finset.subset_univ _)) $$ Hf
  iintro Hf
  iapply (wp_store 𝒱₀ (c : Thread nD τ) none Set.univ (m := (Memref.whole cc0_scratch1 : Memref sig .tc .vmem S512x2048 .bf16)) (r := Rect.unit (s := S512x2048) ![0, 0] S512x2048.size inb_S512x2048_S512x2048_0_0)
    (Mk := Finset.univ) (Finset.subset_univ _)) $$ Hf
  iintro Hf
  iapply (wp_load 𝒱₀ (c : Thread nD τ) none Set.univ (m := (Memref.whole cc0_stg0_0 : Memref sig .tc .vmem S2048x512 .bf16)) (Finset.subset_univ _)) $$ Hx
  iintro Hx
  rw [wp_ret]; imodintro
  iapply Hk
  isplitl [Hp]; · iapply (Entails.of_eq (rest_bar xs ws c)); iexact Hp
  isplitl [Hz]; · iexact Hz
  isplitl [HO]; · iexists _; iexact HO
  isplitl [Hx]; · iexact Hx
  isplitl [Hw]; · iexact Hw
  iapply (Entails.of_eq (congrArg (fun v => (((c : Thread nD τ).loc cc0_scratch1) ↦{fullShare} (v : Buf (Elt F) ((c : Thread nD τ).loc cc0_scratch1)) : sProp 𝕄))
    ((Memref.write_access_unit_zero_univ (Elt F) cc0_scratch1 hz inb_S512x2048_S512x2048_0_0 f1 _).trans
      (congrArg k0_pay1 (Memref.readAt_unit_zero (Elt F) cc0_stg1_0 hz inb_S512x2048_S512x2048_0_0 (ws c))))))
  iexact Hf

end Cert.KernelIdeal.Own
-- ==== Proof.Total.lean ====
/- The kernel's body on one device, all its stages in order. -/
module

public import proofs.«01_k».proof.Proof.Whole

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S2048x512 .bf16) (ws : Dev nD → Vec F S512x2048 .bf16) (K : Dev nD × Option Kind → ℕ)

/-! ## What the body starts from and what it ends with -/

/-- The tokens of a hop's sends: its own and its arrival's. -/
abbrev sDut (c : Dev nD) (h : Fin 6) : sProp 𝕄 :=
  iprop(BS (fun k => dutyTok ER (sC c h k.1 k.2) 0 false) ∗ BS (fun k => dutyTok ER (rC (peer k.1 c) h k.1 k.2) 0 false))

/-- What the body starts from besides the staged blocks. -/
def start (c : Dev nD) : sProp 𝕄 :=
  iprop(barTok c
    ∗ (bigSep Finset.univ fun h : Fin 6 => iprop(sDut c h ∗ BS (fun k => rTok c h k.1 k.2) ∗ BS (fun k => pos c (.inl h, k))))
    ∗ (bigSep Finset.univ fun g : Fin 4 => iprop(BS (fun k => oTok c g k.1 k.2) ∗ BS (fun k => pos c (.inr (.inr g), k))))
    ∗ (bigSep Finset.univ fun h : Fin 4 => BS (fun k => any c (sSl k.1 (sl16 h k.2))))
    ∗ slots c false ∗ slots c true
    ∗ (∃ f : Buf (Elt F) ((c : Thread nD τ).loc cc0_scratch1), ((c : Thread nD τ).loc cc0_scratch1) ↦{fullShare} f)
    ∗ (∃ f : Buf (Elt F) ((c : Thread nD τ).loc cc0_scratch0), ((c : Thread nD τ).loc cc0_scratch0) ↦{fullShare} f))

/-- A block of the result, done. -/
abbrev outDone (c : Dev nD) (g : Fin 4) : sProp 𝕄 := BS fun k => own c (oBlk c k.1 g k.2) fullShare (flat (V xs ws (g.val + 3) c k.1 k.2))

/-- What the body ends with besides the staged blocks. -/
def done (c : Dev nD) : sProp 𝕄 :=
  iprop(semVal (kcell c none) 0
    ∗ (bigSep Finset.univ fun h : Fin 6 => iprop(BS (fun k => fin c (.inl h, k)) ∗ BS (fun k => fin c (.inr (.inl h), k))))
    ∗ (bigSep Finset.univ fun g : Fin 4 => BS (fun k => fin c (.inr (.inr g), k)))
    ∗ (bigSep Finset.univ fun g : Fin 4 => outDone xs ws c g)
    ∗ (bigSep Finset.univ fun h : Fin 4 => BS (fun k => any c (sSl k.1 (sl16 h k.2))))
    ∗ (bigSep Finset.univ fun h : Fin 6 => BS (fun k => any c (rSl k.1 (sl24 h k.2))))
    ∗ (∃ f : Buf (Elt F) ((c : Thread nD τ).loc cc0_scratch1), ((c : Thread nD τ).loc cc0_scratch1) ↦{fullShare} f)
    ∗ (∃ f : Buf (Elt F) ((c : Thread nD τ).loc cc0_scratch0), ((c : Thread nD τ).loc cc0_scratch0) ↦{fullShare} f))

/-! ## Regrouping -/

/-- The neighbours' slots, hop by hop. -/
theorem slots_hops (d : Bool → Dev nD) : (bigSep Finset.univ fun b : Bool => slots (F := F) (d b) b)
    = bigSep Finset.univ fun h : Fin 6 => BS fun k => any (d k.1) (rSl k.1 (sl24 h k.2)) := by
  unfold slots
  rw [bigSep_univ_comm]
  exact bigSep_congr fun h _ => (bigSep_univ_prod (fun k : Col => any (F := F) (d k.1) (rSl k.1 (sl24 h k.2)))).symm

/-- Everything a hop's sends use up. -/
theorem sTok_mk (c : Dev nD) (h : Fin 6) :
    iprop(sDut c h ∗ BS (fun k => any (F := F) (peer k.1 c) (rSl k.1 (sl24 h k.2)))) ⊢ BS fun k => sTok c h k.1 k.2 := by
  iintro ⟨⟨H1, H2⟩, H3⟩
  iapply (mk3 (fun k : Col => dutyTok ER (sC c h k.1 k.2) 0 false) (fun k => dutyTok ER (rC (peer k.1 c) h k.1 k.2) 0 false)
    (fun k => any (peer k.1 c) (rSl k.1 (sl24 h k.2))))
  isplitl [H1]; · iexact H1
  isplitl [H2]; · iexact H2
  iexact H3

/-- A send from a slot given away whole. -/
theorem got_send (c : Dev nD) (h : Fin 6) (M : Bool → Fin 4 → Memref sig .tc .vmem S1x512x256 .bf16)
    (e1 : ∀ b s, srcM b h s = M b s) (e2 : srcQ h = fullShare) :
    BS (fun k => got xs ws c (.inl h, k)) ⊢ iprop(BS (fun k => fin c (.inl h, k)) ∗ BS fun k => any c (M k.1 k.2)) := by
  refine BIBase.Entails.trans (mono _ (fun k => iprop(fin c (.inl h, k) ∗ any c (M k.1 k.2))) fun b s => ?_) (un2 _ _)
  unfold got
  iintro ⟨H1, H2⟩
  isplitl [H1]; · iexact H1
  iapply (any_intro c (M b s) (V xs ws h.val c b s))
  iapply (Entails.of_eq (show pay xs ws c (some (.inl h, b, s)) false = own c (M b s) fullShare (V xs ws h.val c b s) by
    show own c (srcM b h s) (srcQ h) (V xs ws h.val c b s) = _
    rw [e1, e2]))
  iexact H2

/-- A slot both sent and copied out, and the block it went to. -/
theorem got_both (c : Dev nD) (h : Fin 6) (g : Fin 4) (hg : h.val = g.val + 3) (M : Bool → Fin 4 → Memref sig .tc .vmem S1x512x256 .bf16)
    (e1 : ∀ b s, srcM b h s = M b s) (e2 : srcQ h = fullShare.left) (e3 : ∀ b s, outM b g s = M b s) (e4 : outQ g = fullShare.right) :
    iprop(BS (fun k => got xs ws c (.inl h, k)) ∗ BS (fun k => got xs ws c (.inr (.inr g), k)))
      ⊢ iprop(BS (fun k => fin c (.inl h, k)) ∗ BS (fun k => fin c (.inr (.inr g), k)) ∗ outDone xs ws c g ∗ BS fun k => any c (M k.1 k.2)) := by
  refine BIBase.Entails.trans (mk2 _ _) (BIBase.Entails.trans (mono _ (fun k => iprop(fin c (.inl h, k) ∗ fin c (.inr (.inr g), k)
    ∗ own c (oBlk c k.1 g k.2) fullShare (flat (V xs ws (g.val + 3) c k.1 k.2)) ∗ any c (M k.1 k.2))) fun b s => ?_) (un4 _ _ _ _))
  show iprop(got xs ws c (.inl h, b, s) ∗ got xs ws c (.inr (.inr g), b, s)) ⊢ _
  unfold got
  rw [show pay xs ws c (some (.inl h, b, s)) false = own c (M b s) fullShare.left (V xs ws (g.val + 3) c b s) by
    show own c (srcM b h s) (srcQ h) (V xs ws h.val c b s) = _
    rw [e1, e2, hg]]
  rw [show pay xs ws c (some (.inr (.inr g), b, s)) false = iprop(own c (oBlk c b g s) fullShare (flat (V xs ws (g.val + 3) c b s))
      ∗ own c (M b s) fullShare.right (V xs ws (g.val + 3) c b s)) by
    show iprop(_ ∗ own c (outM b g s) (outQ g) (V xs ws (g.val + 3) c b s)) = _
    rw [e3, e4]]
  iintro ⟨⟨H1, H2⟩, H3, H4, H5⟩
  isplitl [H1]; · iexact H1
  isplitl [H3]; · iexact H3
  isplitl [H4]; · iexact H4
  iapply (any_halves c (M b s) (V xs ws (g.val + 3) c b s))
  isplitl [H2]; · iexact H2
  iexact H5

/-- A slot only copied out, and the block it went to. -/
theorem got_last (c : Dev nD) :
    BS (fun k => got xs ws c (.inr (.inr 3), k))
      ⊢ iprop(BS (fun k => fin c (.inr (.inr 3), k)) ∗ outDone xs ws c 3 ∗ BS fun k => any c (rSl k.1 (sl24 5 k.2))) := by
  refine BIBase.Entails.trans (mono _ (fun k => iprop(fin c (.inr (.inr 3), k)
    ∗ own c (oBlk c k.1 3 k.2) fullShare (flat (V xs ws ((3 : Fin 4).val + 3) c k.1 k.2)) ∗ any c (rSl k.1 (sl24 5 k.2)))) fun b s => ?_) (un3 _ _ _)
  unfold got
  rw [show pay xs ws c (some (.inr (.inr 3), b, s)) false = iprop(own c (oBlk c b 3 s) fullShare (flat (V xs ws ((3 : Fin 4).val + 3) c b s))
      ∗ own c (rSl b (sl24 5 s)) fullShare (V xs ws ((3 : Fin 4).val + 3) c b s)) from rfl]
  iintro ⟨H1, H2, H3⟩
  isplitl [H1]; · iexact H1
  isplitl [H2]; · iexact H2
  iapply (any_intro c _ _); iexact H3

/-! ## The stages -/

/-- The first stage over all columns: every block of the device's own rows is computed and sent. -/
theorem A_run (c : Dev nD) (Q : PUnit → sProp 𝕄) :
    iprop(Ctx xs ws K ∗ (BS (fun k => sTok c 0 k.1 k.2) ∗ BS fun k => any c (sSl k.1 (sl16 0 k.2))) ∗ (wOwn ws c ∗ owe c 48)
        ∗ (BS (fun k => sCred c 0 k.1 k.2) ∗ (wOwn ws c ∗ owe c 40) -∗ Q ⟨⟩))
      ⊢ run c (ring8 (stA c (xOwn xs c))) Q := by
  iintro ⟨#HC, HA, HP, Hk⟩
  iapply (stage_run xs ws K c (stA c (xOwn xs c)) 0 (by decide) (fun k => iprop(sTok c 0 k.1 k.2 ∗ any c (sSl k.1 (sl16 0 k.2))))
    (fun k => sCred c 0 k.1 k.2) (fun n => iprop(wOwn ws c ∗ owe c n)) (fun b s n hn => stA_run xs ws K c b s n (by omega)) Q)
  isplitr; · iexact HC
  isplitl [HA]; · iapply (mk2 _ _); iexact HA
  isplitl [HP]; · iexact HP
  iexact Hk

/-- Hops one and two over all columns: what arrived is added to and sent on. -/
theorem B_run (c : Dev nD) (h : Fin 2) (n n' : ℕ) (hn : 48 - 8 * (h.val + 1) = n) (hn' : 40 - 8 * (h.val + 1) = n') (Q : PUnit → sProp 𝕄) :
    iprop(Ctx xs ws K ∗ (BS (fun k => rTok c (h.castLE (by omega)) k.1 k.2) ∗ BS (fun k => sTok c (h.succ.castLE (by omega)) k.1 k.2)
          ∗ BS fun k => any c (sSl k.1 (sl16 h.succ.castSucc k.2))) ∗ (accOwn xs ws c 3 ∗ owe c n)
        ∗ (((BS (fun k => fin c (.inr (.inl (h.castLE (by omega))), k)) ∗ BS (fun k => any c (rSl k.1 (sl24 (h.castLE (by omega)) k.2))))
            ∗ BS (fun k => sCred c (h.succ.castLE (by omega)) k.1 k.2)) ∗ (accOwn xs ws c 3 ∗ owe c n') -∗ Q ⟨⟩))
      ⊢ run c (ring8 (stB c h)) Q := by
  subst hn hn'
  iintro ⟨#HC, HA, HP, Hk⟩
  iapply (stage_run xs ws K c (stB c h) (h.val + 1) (by omega)
    (fun k => iprop(rTok c (h.castLE (by omega)) k.1 k.2 ∗ sTok c (h.succ.castLE (by omega)) k.1 k.2 ∗ any c (sSl k.1 (sl16 h.succ.castSucc k.2))))
    (fun k => iprop((fin c (.inr (.inl (h.castLE (by omega))), k) ∗ any c (rSl k.1 (sl24 (h.castLE (by omega)) k.2))) ∗ sCred c (h.succ.castLE (by omega)) k.1 k.2))
    (fun n => iprop(accOwn xs ws c 3 ∗ owe c n)) (fun b s n hn => stB_run xs ws K c h b s n (by omega)) Q)
  isplitr; · iexact HC
  isplitl [HA]; · iapply (mk3 _ _ _); iexact HA
  isplitl [HP]; · iexact HP
  iintro ⟨HB, HP⟩
  iapply Hk
  isplitl [HB]; · iapply (un31 _ _ _); iexact HB
  iexact HP

/-- Hop three over all columns: the last part is added, the activation taken, the block sent on and copied out. -/
theorem C_run (c : Dev nD) (Q : PUnit → sProp 𝕄) :
    iprop(Ctx xs ws K ∗ (BS (fun k => rTok c 2 k.1 k.2) ∗ BS (fun k => sTok c 3 k.1 k.2) ∗ BS (fun k => oTok c 0 k.1 k.2)
          ∗ BS fun k => any c (sSl k.1 (sl16 3 k.2))) ∗ (accOwn xs ws c 3 ∗ owe c 24)
        ∗ (((BS (fun k => fin c (.inr (.inl 2), k)) ∗ BS (fun k => any c (rSl k.1 (sl24 2 k.2))))
            ∗ BS (fun k => sCred c 3 k.1 k.2) ∗ BS (fun k => oCred c 0 k.1 k.2)) ∗ (accOwn xs ws c 3 ∗ owe c 16) -∗ Q ⟨⟩))
      ⊢ run c (ring8 (stC c)) Q := by
  iintro ⟨#HC, HA, HP, Hk⟩
  iapply (stage_run xs ws K c (stC c) 3 (by decide)
    (fun k => iprop(rTok c 2 k.1 k.2 ∗ sTok c 3 k.1 k.2 ∗ oTok c 0 k.1 k.2 ∗ any c (sSl k.1 (sl16 3 k.2))))
    (fun k => iprop((fin c (.inr (.inl 2), k) ∗ any c (rSl k.1 (sl24 2 k.2))) ∗ sCred c 3 k.1 k.2 ∗ oCred c 0 k.1 k.2))
    (fun n => iprop(accOwn xs ws c 3 ∗ owe c n)) (fun b s n hn => stC_run xs ws K c b s n (by omega)) Q)
  isplitr; · iexact HC
  isplitl [HA]; · iapply (mk4 _ _ _ _); iexact HA
  isplitl [HP]; · iexact HP
  iintro ⟨HB, HP⟩
  iapply Hk
  isplitl [HB]
  · ihave HB := (un31 _ _ _) $$ HB
    icases HB with ⟨H1, H2⟩
    isplitl [H1]; · iexact H1
    iapply (un2 _ _); iexact H2
  iexact HP

/-- Hops four and five over all columns: what arrived is sent on and copied out. -/
theorem DE_run (c : Dev nD) (st : Bool → Fin 4 → Pr F PUnit) (h h' : Fin 6) (g : Fin 4) (n n' : ℕ) (hn : 48 - 8 * h'.val = n) (hn' : 40 - 8 * h'.val = n')
    (hst : ∀ b s n, n + 8 * h'.val + 2 * (s : Fin 4).val + b.toNat = 47 → iprop(Ctx xs ws K ∗ (rTok c h b s ∗ sTok c h' b s ∗ oTok c g b s) ∗ owe c (n + 1))
      ⊢ run c (st b s) fun _ => iprop((fin c (.inr (.inl h), b, s) ∗ sCred c h' b s ∗ oCred c g b s) ∗ owe c n)) (Q : PUnit → sProp 𝕄) :
    iprop(Ctx xs ws K ∗ (BS (fun k => rTok c h k.1 k.2) ∗ BS (fun k => sTok c h' k.1 k.2) ∗ BS (fun k => oTok c g k.1 k.2)) ∗ owe c n
        ∗ ((BS (fun k => fin c (.inr (.inl h), k)) ∗ BS (fun k => sCred c h' k.1 k.2) ∗ BS (fun k => oCred c g k.1 k.2)) ∗ owe c n' -∗ Q ⟨⟩))
      ⊢ run c (ring8 st) Q := by
  subst hn hn'
  iintro ⟨#HC, HA, HP, Hk⟩
  iapply (stage_run xs ws K c st h'.val h'.isLt (fun k => iprop(rTok c h k.1 k.2 ∗ sTok c h' k.1 k.2 ∗ oTok c g k.1 k.2))
    (fun k => iprop(fin c (.inr (.inl h), k) ∗ sCred c h' k.1 k.2 ∗ oCred c g k.1 k.2)) (fun n => owe c n) hst Q)
  isplitr; · iexact HC
  isplitl [HA]; · iapply (mk3 _ _ _); iexact HA
  isplitl [HP]; · iexact HP
  iintro ⟨HB, HP⟩
  iapply Hk
  isplitl [HB]; · iapply (un3 _ _ _); iexact HB
  iexact HP

/-- The last hop over all columns: what arrived is copied out. -/
theorem F_run (c : Dev nD) (Q : PUnit → sProp 𝕄) :
    iprop(Ctx xs ws K ∗ (BS (fun k => rTok c 5 k.1 k.2) ∗ BS (fun k => oTok c 3 k.1 k.2)) ∗ owe c 0
        ∗ ((BS (fun k => fin c (.inr (.inl 5), k)) ∗ BS (fun k => oCred c 3 k.1 k.2)) ∗ owe c 0 -∗ Q ⟨⟩))
      ⊢ run c (ring8 (stF c)) Q := by
  iintro ⟨#HC, HA, HP, Hk⟩
  iapply (ring8_run c (stF c) (Ctx xs ws K) (fun k => iprop(rTok c 5 k.1 k.2 ∗ oTok c 3 k.1 k.2))
    (fun k => iprop(fin c (.inr (.inl 5), k) ∗ oCred c 3 k.1 k.2)) (fun _ => owe c 0) (fun b s => stF_run xs ws K c b s) Q)
  isplitr; · iexact HC
  isplitl [HA]; · iapply (mk2 _ _); iexact HA
  isplitl [HP]; · iexact HP
  iintro ⟨HB, HP⟩
  iapply Hk
  isplitl [HB]; · iapply (un2 _ _); iexact HB
  iexact HP

/-- What a copy to the result pays; -/
theorem credit_out (c : Dev nD) (b : Bool) (g s : Fin 4) : (oBlk c b g s).view.dmaCredit = N := by cases b <;> rfl
/-- and what a transfer pays. -/
theorem credit_send (b : Bool) (j : Fin 16) : (sSq b j).view.dmaCredit = N := by cases b <;> rfl

/-- A device learns its own number. -/
theorem device_run (c : Dev nD) (Q : Dev nD → sProp 𝕄) : Q c ⊢ run c (Prog.lift .deviceId : Pr F (Dev nD)) Q := by
  simp only [Prog.lift, wp_deviceId]
  rw [wp_ret]
  iintro H; imodintro; iexact H

/-- The body on one device. -/
theorem body_run (c : Dev nD) :
    iprop(Ctx xs ws K ∗ start c ∗ (∃ W, owes (c : Thread nD τ) (O₀ c) W) ∗ xAt xs c ∗ wAt ws c)
      ⊢ run c (body (Memref.whole cc0_stg0_0 : Memref sig .tc .vmem S2048x512 .bf16) (Memref.whole cc0_stg1_0 : Memref sig .tc .vmem S512x2048 .bf16))
        fun _ => iprop(done xs ws c ∗ owe c 0 ∗ xAt xs c ∗ wAt ws c) := by
  unfold start
  rw [fin6, fin4, fin4]
  iintro ⟨#HC, ⟨Hb, ⟨⟨D0, R0, P0⟩, ⟨D1, R1, P1⟩, ⟨D2, R2, P2⟩, ⟨D3, R3, P3⟩, ⟨D4, R4, P4⟩, ⟨D5, R5, P5⟩⟩,
    ⟨⟨T0, O0⟩, ⟨T1, O1⟩, ⟨T2, O2⟩, ⟨T3, O3⟩⟩, ⟨S0, S1, S2, S3⟩, L0, L1, Hw1, ⟨%fa, Hacc⟩⟩, HO, Hx, Hw⟩
  unfold body
  rw [run_bind]
  iapply (device_run c)
  rw [run_bind]
  iapply (prologue_run xs ws K c)
  isplitr; · iexact HC
  isplitl [Hb]; · iexact Hb
  isplitl [HO]; · iexact HO
  isplitl [L0]; · iexact L0
  isplitl [L1]; · iexact L1
  isplitl [Hx]; · iexact Hx
  isplitl [Hw]; · iexact Hw
  isplitl [Hw1]; · iexact Hw1
  iintro ⟨HL, Hz, HO, Hx, Hw, Hw1⟩
  ihave HL := (Entails.of_eq ((slots_hops fun b => peer b c).trans (fin6 _))) $$ HL
  icases HL with ⟨N0, N1, N2, N3, N4, N5⟩
  ihave X0 := (sTok_mk c 0) $$ [D0 N0]
  · isplitl [D0]; · iexact D0
    iexact N0
  ihave X1 := (sTok_mk c 1) $$ [D1 N1]
  · isplitl [D1]; · iexact D1
    iexact N1
  ihave X2 := (sTok_mk c 2) $$ [D2 N2]
  · isplitl [D2]; · iexact D2
    iexact N2
  ihave X3 := (sTok_mk c 3) $$ [D3 N3]
  · isplitl [D3]; · iexact D3
    iexact N3
  ihave X4 := (sTok_mk c 4) $$ [D4 N4]
  · isplitl [D4]; · iexact D4
    iexact N4
  ihave X5 := (sTok_mk c 5) $$ [D5 N5]
  · isplitl [D5]; · iexact D5
    iexact N5
  rw [run_bind]
  iapply (A_run xs ws K c)
  isplitr; · iexact HC
  isplitl [X0 S0]
  · isplitl [X0]; · iexact X0
    iexact S0
  isplitl [Hw1 HO]
  · isplitl [Hw1]; · iexact Hw1
    iexact HO
  iintro ⟨C0, Hw1, HO⟩
  rw [run_bind]
  iapply (gemm_run xs ws c 0 1 rfl)
  isplitl [Hx]; · iexact Hx
  isplitl [Hw1]; · iexact Hw1
  isplitl [Hacc]
  · unfold accOwn; iexists fa; isplitr
    · ipureintro; intro r hr; exact absurd hr (Nat.not_lt_zero _)
    · iexact Hacc
  iintro ⟨Hx, Hw1, Hacc⟩
  rw [run_bind]
  iapply (gemm_run xs ws c 1 2 rfl)
  isplitl [Hx]; · iexact Hx
  isplitl [Hw1]; · iexact Hw1
  isplitl [Hacc]
  · iexact Hacc
  iintro ⟨Hx, Hw1, Hacc⟩
  rw [run_bind]
  iapply (gemm_run xs ws c 2 3 rfl)
  isplitl [Hx]; · iexact Hx
  isplitl [Hw1]; · iexact Hw1
  isplitl [Hacc]
  · iexact Hacc
  iintro ⟨Hx, Hw1, Hacc⟩
  rw [run_bind]
  iapply (B_run xs ws K c 0 40 32 rfl rfl)
  isplitr; · iexact HC
  isplitl [R0 X1 S1]
  · isplitl [R0]; · iexact R0
    isplitl [X1]; · iexact X1
    iexact S1
  isplitl [Hacc HO]
  · isplitl [Hacc]; · iexact Hacc
    iexact HO
  iintro ⟨⟨⟨F0, M0⟩, C1⟩, Hacc, HO⟩
  rw [run_bind]
  iapply (B_run xs ws K c 1 32 24 rfl rfl)
  isplitr; · iexact HC
  isplitl [R1 X2 S2]
  · isplitl [R1]; · iexact R1
    isplitl [X2]; · iexact X2
    iexact S2
  isplitl [Hacc HO]
  · isplitl [Hacc]; · iexact Hacc
    iexact HO
  iintro ⟨⟨⟨F1, M1⟩, C2⟩, Hacc, HO⟩
  rw [run_bind]
  iapply (C_run xs ws K c)
  isplitr; · iexact HC
  isplitl [R2 X3 T0 S3]
  · isplitl [R2]; · iexact R2
    isplitl [X3]; · iexact X3
    isplitl [T0]; · iexact T0
    iexact S3
  isplitl [Hacc HO]
  · isplitl [Hacc]; · iexact Hacc
    iexact HO
  iintro ⟨⟨⟨F2, M2⟩, C3, Q0⟩, Hacc, HO⟩
  rw [run_bind]
  iapply (DE_run xs ws K c (stD c) 3 4 1 16 8 rfl rfl (fun b s n hn => stD_run xs ws K c b s n hn))
  isplitr; · iexact HC
  isplitl [R3 X4 T1]
  · isplitl [R3]; · iexact R3
    isplitl [X4]; · iexact X4
    iexact T1
  isplitl [HO]; · iexact HO
  iintro ⟨⟨F3, C4, Q1⟩, HO⟩
  rw [run_bind]
  iapply (DE_run xs ws K c (stE c) 4 5 2 8 0 rfl rfl (fun b s n hn => stE_run xs ws K c b s n hn))
  isplitr; · iexact HC
  isplitl [R4 X5 T2]
  · isplitl [R4]; · iexact R4
    isplitl [X5]; · iexact X5
    iexact T2
  isplitl [HO]; · iexact HO
  iintro ⟨⟨F4, C5, Q2⟩, HO⟩
  rw [run_bind]
  iapply (F_run xs ws K c)
  isplitr; · iexact HC
  isplitl [R5 T3]
  · isplitl [R5]; · iexact R5
    iexact T3
  isplitl [HO]; · iexact HO
  iintro ⟨⟨F5, Q3⟩, HO⟩
  rw [run_bind]
  iapply (drains_run xs ws K c (drainOS c) (.inr (.inr 0)) (fun b s => drain_run xs ws K c (.inr (.inr 0), b, s) (credit_out c b 0 s)))
  isplitr; · iexact HC
  isplitl [Q0 O0]
  · isplitl [Q0]; · iexact Q0
    iexact O0
  isplitl [HO]; · iexact HO
  iintro ⟨G0, HO⟩
  rw [run_bind]
  iapply (drains_run xs ws K c (drainOR c 3 1) (.inr (.inr 1)) (fun b s => drain_run xs ws K c (.inr (.inr 1), b, s) (credit_out c b 1 s)))
  isplitr; · iexact HC
  isplitl [Q1 O1]
  · isplitl [Q1]; · iexact Q1
    iexact O1
  isplitl [HO]; · iexact HO
  iintro ⟨G1, HO⟩
  rw [run_bind]
  iapply (drains_run xs ws K c (drainOR c 4 2) (.inr (.inr 2)) (fun b s => drain_run xs ws K c (.inr (.inr 2), b, s) (credit_out c b 2 s)))
  isplitr; · iexact HC
  isplitl [Q2 O2]
  · isplitl [Q2]; · iexact Q2
    iexact O2
  isplitl [HO]; · iexact HO
  iintro ⟨G2, HO⟩
  rw [run_bind]
  iapply (drains_run xs ws K c (drainOR c 5 3) (.inr (.inr 3)) (fun b s => drain_run xs ws K c (.inr (.inr 3), b, s) (credit_out c b 3 s)))
  isplitr; · iexact HC
  isplitl [Q3 O3]
  · isplitl [Q3]; · iexact Q3
    iexact O3
  isplitl [HO]; · iexact HO
  iintro ⟨G3, HO⟩
  rw [run_bind]
  iapply (drains_run xs ws K c (drainSS 0) (.inl 0) (fun b s => drain_run xs ws K c (.inl 0, b, s) (credit_send b _)))
  isplitr; · iexact HC
  isplitl [C0 P0]
  · isplitl [C0]; · iexact C0
    iexact P0
  isplitl [HO]; · iexact HO
  iintro ⟨H0, HO⟩
  rw [run_bind]
  iapply (drains_run xs ws K c (drainSS 1) (.inl 1) (fun b s => drain_run xs ws K c (.inl 1, b, s) (credit_send b _)))
  isplitr; · iexact HC
  isplitl [C1 P1]
  · isplitl [C1]; · iexact C1
    iexact P1
  isplitl [HO]; · iexact HO
  iintro ⟨H1, HO⟩
  rw [run_bind]
  iapply (drains_run xs ws K c (drainSS 2) (.inl 2) (fun b s => drain_run xs ws K c (.inl 2, b, s) (credit_send b _)))
  isplitr; · iexact HC
  isplitl [C2 P2]
  · isplitl [C2]; · iexact C2
    iexact P2
  isplitl [HO]; · iexact HO
  iintro ⟨H2, HO⟩
  rw [run_bind]
  iapply (drains_run xs ws K c (drainSS 3) (.inl 3) (fun b s => drain_run xs ws K c (.inl 3, b, s) (credit_send b _)))
  isplitr; · iexact HC
  isplitl [C3 P3]
  · isplitl [C3]; · iexact C3
    iexact P3
  isplitl [HO]; · iexact HO
  iintro ⟨H3, HO⟩
  rw [run_bind]
  iapply (drains_run xs ws K c (drainSR 3 4) (.inl 4) (fun b s => drain_run xs ws K c (.inl 4, b, s) (credit_slot b _)))
  isplitr; · iexact HC
  isplitl [C4 P4]
  · isplitl [C4]; · iexact C4
    iexact P4
  isplitl [HO]; · iexact HO
  iintro ⟨H4, HO⟩
  iapply (drains_run xs ws K c (drainSR 4 5) (.inl 5) (fun b s => drain_run xs ws K c (.inl 5, b, s) (credit_slot b _)))
  isplitr; · iexact HC
  isplitl [C5 P5]
  · isplitl [C5]; · iexact C5
    iexact P5
  isplitl [HO]; · iexact HO
  iintro ⟨H5, HO⟩
  ihave H0 := (got_send xs ws c 0 (fun b s => sSl b (sl16 0 s)) (fun _ _ => rfl) rfl) $$ H0
  icases H0 with ⟨H0, S0⟩
  ihave H1 := (got_send xs ws c 1 (fun b s => sSl b (sl16 1 s)) (fun _ _ => rfl) rfl) $$ H1
  icases H1 with ⟨H1, S1⟩
  ihave H2 := (got_send xs ws c 2 (fun b s => sSl b (sl16 2 s)) (fun _ _ => rfl) rfl) $$ H2
  icases H2 with ⟨H2, S2⟩
  ihave HG := (got_both xs ws c 3 0 rfl (fun b s => sSl b (sl16 3 s)) (fun _ _ => rfl) rfl (fun _ _ => rfl) rfl) $$ [H3 G0]
  · isplitl [H3]; · iexact H3
    iexact G0
  icases HG with ⟨H3, G0, E0, S3⟩
  ihave HG := (got_both xs ws c 4 1 rfl (fun b s => rSl b (sl24 3 s)) (fun _ _ => rfl) rfl (fun _ _ => rfl) rfl) $$ [H4 G1]
  · isplitl [H4]; · iexact H4
    iexact G1
  icases HG with ⟨H4, G1, E1, M3⟩
  ihave HG := (got_both xs ws c 5 2 rfl (fun b s => rSl b (sl24 4 s)) (fun _ _ => rfl) rfl (fun _ _ => rfl) rfl) $$ [H5 G2]
  · isplitl [H5]; · iexact H5
    iexact G2
  icases HG with ⟨H5, G2, E2, M4⟩
  ihave G3 := (got_last xs ws c) $$ G3
  icases G3 with ⟨G3, E3, M5⟩
  unfold done
  rw [fin6, fin4, fin4, fin4, fin6]
  isplitr [HO Hx Hw]
  · isplitl [Hz]; · iexact Hz
    isplitl [H0 H1 H2 H3 H4 H5 F0 F1 F2 F3 F4 F5]
    · isplitl [H0 F0]
      · isplitl [H0]; · iexact H0
        iexact F0
      isplitl [H1 F1]
      · isplitl [H1]; · iexact H1
        iexact F1
      isplitl [H2 F2]
      · isplitl [H2]; · iexact H2
        iexact F2
      isplitl [H3 F3]
      · isplitl [H3]; · iexact H3
        iexact F3
      isplitl [H4 F4]
      · isplitl [H4]; · iexact H4
        iexact F4
      · isplitl [H5]; · iexact H5
        iexact F5
    isplitl [G0 G1 G2 G3]
    · isplitl [G0]; · iexact G0
      isplitl [G1]; · iexact G1
      isplitl [G2]; · iexact G2
      iexact G3
    isplitl [E0 E1 E2 E3]
    · isplitl [E0]; · iexact E0
      isplitl [E1]; · iexact E1
      isplitl [E2]; · iexact E2
      iexact E3
    isplitl [S0 S1 S2 S3]
    · isplitl [S0]; · iexact S0
      isplitl [S1]; · iexact S1
      isplitl [S2]; · iexact S2
      iexact S3
    isplitl [M0 M1 M2 M3 M4 M5]
    · isplitl [M0]; · iexact M0
      isplitl [M1]; · iexact M1
      isplitl [M2]; · iexact M2
      isplitl [M3]; · iexact M3
      isplitl [M4]; · iexact M4
      iexact M5
    isplitl [Hw1]
    · unfold wOwn; iexists _; iexact Hw1
    · unfold accOwn; icases Hacc with ⟨%f, -, Hacc⟩; iexists f; iexact Hacc
  isplitl [HO]; · iexact HO
  isplitl [Hx]; · iexact Hx
  iexact Hw

end Cert.KernelIdeal.Own
-- ==== Proof.Split.lean ====
/- The buffers in pieces: a send buffer is its sixteen slots, a receive buffer its twenty-four, and the
   result its thirty-two blocks. -/
module

public import proofs.«01_k».proof.Proof.Total

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every kind of element has a value: the one whose bits are all zero. -/
instance elt_nonempty : ∀ e : EltTy, Nonempty (Elt F e)
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨FloatOps.ofBits .fp8e4m3 0⟩ | .fp8e5m2 => ⟨FloatOps.ofBits .fp8e5m2 0⟩
  | .bf16 => ⟨FloatOps.ofBits .bf16 0⟩ | .f16 => ⟨FloatOps.ofBits .f16 0⟩ | .f32 => ⟨FloatOps.ofBits .f32 0⟩

/-! ## A block and a family of rectangles that covers it -/

section Rects
variable (c : Dev nD) {sp : Space} {sh : Shape} (M : Memref sig .tc sp sh .bf16)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)

/-- A block held, whatever is there, is each of its pieces held. -/
theorem any_split (hr : ∀ t a, (r t).stride a = 1) (hd : ∀ t t', t ≠ t' → Disjoint (r t).set (r t').set)
    (hcov : (Finset.univ : Finset T).biUnion (fun t => (r t).set) = Finset.univ) :
    any (F := F) c M ⊢ bigSep Finset.univ fun t => any c (M.slice (r t) (hr t)) := by
  rw [show any (F := F) c M = iprop(∃ X : Vec F sh .bf16, own c M fullShare X) from rfl]
  iintro ⟨%X, H⟩
  iapply (show (own c M fullShare X : sProp 𝕄) ⊢ bigSep Finset.univ fun t => any c (M.slice (r t) (hr t)) from
    BIBase.Entails.trans (owns_rects (c : Thread nD τ) M fullShare r hr hd hcov X) (bigSep_mono fun t _ => any_intro c _ _))
  iexact H

/-- Contents given piece by piece are the pieces of some contents. -/
theorem glue (hd : ∀ t t', t ≠ t' → Disjoint (r t).set (r t').set) (Xt : ∀ t, (r t).shape.Idx → Elt F .bf16) :
    ∃ X : sh.Idx → Elt F .bf16, ∀ t j, X ((r t).emb j) = Xt t j := by
  classical
  refine ⟨fun i => if h : ∃ t j, (r t).emb j = i then Xt h.choose h.choose_spec.choose else FloatOps.ofBits .bf16 0, fun t j => ?_⟩
  have h : ∃ t' j', (r t').emb j' = (r t).emb j := ⟨t, j, rfl⟩
  have key : ∀ t' j', (r t').emb j' = (r t).emb j → Xt t' j' = Xt t j := fun t' j' e => by
    have ht : t' = t := by
      by_contra hne
      exact Finset.disjoint_left.mp (hd t' t hne)
        (by rw [← Rect.map_emb_univ]; exact Finset.mem_map_of_mem _ (Finset.mem_univ j'))
        (by rw [e, ← Rect.map_emb_univ]; exact Finset.mem_map_of_mem _ (Finset.mem_univ j))
    subst ht
    rw [(r t').emb.injective e]
  exact (dif_pos h).trans (key _ _ h.choose_spec.choose_spec)

/-- Each piece held, whatever is there, is the block held. -/
theorem any_join (hr : ∀ t a, (r t).stride a = 1) (hd : ∀ t t', t ≠ t' → Disjoint (r t).set (r t').set)
    (hcov : (Finset.univ : Finset T).biUnion (fun t => (r t).set) = Finset.univ) :
    (bigSep Finset.univ fun t => any c (M.slice (r t) (hr t))) ⊢ any (F := F) c M := by
  rw [show (fun t => any (F := F) c (M.slice (r t) (hr t))) = fun t => iprop(∃ X : Vec F (r t).shape .bf16, own c (M.slice (r t) (hr t)) fullShare X) from rfl]
  haveI : ∀ t, Nonempty (Vec F (r t).shape .bf16) := fun t => ⟨fun _ => FloatOps.ofBits .bf16 0⟩
  iintro H
  ihave H := (show (bigSep Finset.univ fun t => (iprop(∃ X : Vec F (r t).shape .bf16, own c (M.slice (r t) (hr t)) fullShare X) : sProp 𝕄))
    ⊢ _ from BI.bigSep_exists_pi Finset.univ (fun t (X : Vec F (r t).shape .bf16) => (own c (M.slice (r t) (hr t)) fullShare X : sProp 𝕄))) $$ H
  icases H with ⟨%Xt, H⟩
  obtain ⟨X, hX⟩ := glue r hd Xt
  iapply (any_intro c M X)
  iapply (show (bigSep Finset.univ fun t => (own c (M.slice (r t) (hr t)) fullShare (fun j => X ((r t).emb j)) : sProp 𝕄)) ⊢ own c M fullShare X from
    owns_of_rects (c : Thread nD τ) M fullShare r hr hd hcov X)
  rw [show (fun t => (own c (M.slice (r t) (hr t)) fullShare (fun j => X ((r t).emb j)) : sProp 𝕄)) = fun t => own c (M.slice (r t) (hr t)) fullShare (Xt t) from
    funext fun t => by rw [show (fun j => X ((r t).emb j)) = Xt t from funext (hX t)]]
  iexact H

end Rects

/-! ## The slots -/

/-- A row of a unit rectangle of whole planes. -/
theorem mem_slot {n : ℕ} (j : ℕ) (inb) (y : (⟨3, ![n, 512, 256]⟩ : Shape).Idx) :
    y ∈ (Rect.unit (s := ⟨3, ![n, 512, 256]⟩) ![j, 0, 0] S1x512x256.size inb).set ↔ (y 0).val = j := by
  have h1 : (y 1).val < 512 := (y 1).isLt
  have h2 : (y 2).val < 256 := (y 2).isLt
  rw [Rect.mem_set_unit]
  constructor
  · intro h
    have := h 0
    simp at this
    omega
  · intro h a
    fin_cases a <;> simp <;> omega

/-- Two slots of a send buffer have nothing in common; -/
theorem slots16_apart (j j' : Fin 16) (h : j ≠ j') : Disjoint (rect16 j).set (rect16 j').set :=
  Finset.disjoint_left.mpr fun y h1 h2 => h (Fin.ext (((mem_slot _ _ y).mp h1).symm.trans ((mem_slot _ _ y).mp h2)))
/-- the slots are all of it. -/
theorem slots16_cover : (Finset.univ : Finset (Fin 16)).biUnion (fun j => (rect16 j).set) = Finset.univ :=
  Finset.eq_univ_iff_forall.mpr fun y => Finset.mem_biUnion.mpr ⟨y 0, Finset.mem_univ _, (mem_slot _ _ y).mpr rfl⟩
/-- Two slots of a receive buffer have nothing in common; -/
theorem slots24_apart (j j' : Fin 24) (h : j ≠ j') : Disjoint (rect24 j).set (rect24 j').set :=
  Finset.disjoint_left.mpr fun y h1 h2 => h (Fin.ext (((mem_slot _ _ y).mp h1).symm.trans ((mem_slot _ _ y).mp h2)))
/-- the slots are all of it. -/
theorem slots24_cover : (Finset.univ : Finset (Fin 24)).biUnion (fun j => (rect24 j).set) = Finset.univ :=
  Finset.eq_univ_iff_forall.mpr fun y => Finset.mem_biUnion.mpr ⟨y 0, Finset.mem_univ _, (mem_slot _ _ y).mpr rfl⟩

/-- Slots of a send buffer by hop and column block. -/
def eq16 : Fin 4 × Fin 4 ≃ Fin 16 where
  toFun p := sl16 p.1 p.2
  invFun j := (⟨j.val / 4, by omega⟩, ⟨j.val % 4, by omega⟩)
  left_inv := fun ⟨h, s⟩ => Prod.ext (Fin.ext (by simp only; omega)) (Fin.ext (by simp only; omega))
  right_inv := fun j => Fin.ext (by simp only; omega)
/-- Slots of a receive buffer by hop and column block. -/
def eq24 : Fin 6 × Fin 4 ≃ Fin 24 where
  toFun p := sl24 p.1 p.2
  invFun j := (⟨j.val / 4, by omega⟩, ⟨j.val % 4, by omega⟩)
  left_inv := fun ⟨h, s⟩ => Prod.ext (Fin.ext (by simp only; omega)) (Fin.ext (by simp only; omega))
  right_inv := fun j => Fin.ext (by simp only; omega)

/-- The slots of a send buffer one by one are its slots by hop. -/
theorem hops16 (Φ : Fin 16 → sProp 𝕄) :
    bigSep Finset.univ Φ = bigSep Finset.univ fun h : Fin 4 => bigSep Finset.univ fun s : Fin 4 => Φ (sl16 h s) := by
  rw [bigSep_univ_equiv eq16 Φ, bigSep_univ_prod]; rfl
/-- The slots of a receive buffer one by one are its slots by hop. -/
theorem hops24 (Φ : Fin 24 → sProp 𝕄) :
    bigSep Finset.univ Φ = bigSep Finset.univ fun h : Fin 6 => bigSep Finset.univ fun s : Fin 4 => Φ (sl24 h s) := by
  rw [bigSep_univ_equiv eq24 Φ, bigSep_univ_prod]; rfl

/-- A send buffer is its slots. -/
theorem send_slots (c : Dev nD) (b : Bool) :
    any (F := F) c (sBuf b) ⊣⊢ bigSep Finset.univ fun h : Fin 4 => bigSep Finset.univ fun s : Fin 4 => any c (sSl b (sl16 h s)) := by
  rw [← hops16 (fun j => any c (sSl b j))]
  exact ⟨any_split c _ rect16 _ slots16_apart slots16_cover, any_join c _ rect16 _ slots16_apart slots16_cover⟩
/-- A receive buffer is its slots. -/
theorem recv_slots (c : Dev nD) (b : Bool) : any (F := F) c (rBuf b) ⊣⊢ slots c b := by
  unfold slots
  rw [← hops24 (fun j => any c (rSl b j))]
  exact ⟨any_split c _ rect24 _ slots24_apart slots24_cover, any_join c _ rect24 _ slots24_apart slots24_cover⟩

/-! ## The result -/

variable (xs : Dev nD → Vec F S2048x512 .bf16) (ws : Dev nD → Vec F S512x2048 .bf16)

/-- The device that finishes a row block in a direction. -/
def doer (b : Bool) (r : Fin 4) : Dev nD := match b with | false => r + 3 | true => r + 1

/-- The device that finishes the `g`-th group of results of device `c`. -/
theorem doer_row : ∀ (c : Dev nD) (b : Bool), doer b (outRow c b 0) = c ∧ doer b (outRow c b 1) = frm b c
    ∧ doer b (outRow c b 2) = frm b (frm b c) ∧ doer b (outRow c b 3) = frm b (frm b (frm b c)) := by decide +kernel

/-- A block of the result depends only on its row block. -/
theorem V_row (c : Dev nD) (b : Bool) (g s : Fin 4) : V xs ws (g.val + 3) c b s = V xs ws 3 (doer b (outRow c b g)) b s := by
  obtain ⟨h0, h1, h2, h3⟩ := doer_row c b
  fin_cases g
  · exact (congrArg (fun d => V xs ws 3 d b s) h0).symm
  · exact (congrArg (fun d => V xs ws 3 d b s) h1).symm
  · exact (congrArg (fun d => V xs ws 3 d b s) h2).symm
  · exact (congrArg (fun d => V xs ws 3 d b s) h3).symm

/-- The direction of a column, and its column block. -/
def dirOf (j : Fin 2048) : Bool := decide (1024 ≤ j.val)
/-- The column block of a column. -/
def colOf (j : Fin 2048) : Fin 4 := ⟨j.val % 1024 / 256, by omega⟩

/-- The result: every device has the same. -/
def outC : Vec F S2048x2048 .bf16 := fun i =>
  flat (V xs ws 3 (doer (dirOf (i 1)) ⟨(i 0).val / 512, by have : (i 0).val < 2048 := (i 0).isLt; omega⟩) (dirOf (i 1)) (colOf (i 1)))
    (ValueIdx.ix2 (n0 := 512) (n1 := 256) ⟨(i 0).val % 512, by omega⟩ ⟨(i 1).val % 256, by omega⟩)

/-- The rows of a group of results are each row block once. -/
theorem row_inj : ∀ (c : Dev nD) (b : Bool) (g g' : Fin 4), outRow c b g = outRow c b g' → g = g' := by decide +kernel
/-- Every row block is some group's. -/
theorem row_surj : ∀ (c : Dev nD) (b : Bool) (r : Fin 4), ∃ g : Fin 4, outRow c b g = r := by decide +kernel

/-- A rectangle of the result given by its row block, direction and column block. -/
theorem mem_blk (off : Fin 2 → ℕ) (inb) (r : Fin 4) (b : Bool) (s : Fin 4) (e : off = ![512 * r.val, colN b s]) (y : S2048x2048.Idx) :
    y ∈ (Rect.unit (s := S2048x2048) off S512x256.size inb).set ↔ (y 0).val / 512 = r.val ∧ dirOf (y 1) = b ∧ colOf (y 1) = s := by
  subst e
  have h0 : (y 0).val < 2048 := (y 0).isLt
  have h1 : (y 1).val < 2048 := (y 1).isLt
  have hs : s.val < 4 := s.isLt
  rw [Rect.mem_set_unit, Fin.forall_fin_two]
  unfold dirOf colOf
  rw [Fin.ext_iff]
  have cf : colN false s = 0 + 256 * s.val := rfl
  have ct : colN true s = 1024 + 256 * s.val := rfl
  cases b
  · rw [cf]; simp; constructor <;> intro h <;> omega
  · rw [ct]; simp; constructor <;> intro h <;> omega

/-- Two blocks of the result have nothing in common; -/
theorem blks_apart (c : Dev nD) (t t' : Fin 4 × Col) (h : t ≠ t') :
    Disjoint (outRect c t.2.1 t.1 t.2.2).set (outRect c t'.2.1 t'.1 t'.2.2).set :=
  Finset.disjoint_left.mpr fun y h1 h2 => h (by
    obtain ⟨g, b, s⟩ := t
    obtain ⟨g', b', s'⟩ := t'
    obtain ⟨a1, a2, a3⟩ := (mem_blk _ _ _ b s (outAt_eq c b g s) y).mp h1
    obtain ⟨b1, b2, b3⟩ := (mem_blk _ _ _ b' s' (outAt_eq c b' g' s') y).mp h2
    have eb : b = b' := a2.symm.trans b2
    have es : s = s' := a3.symm.trans b3
    subst eb; subst es
    rw [row_inj c b g g' (Fin.ext (a1.symm.trans b1))])
/-- the blocks are all of it. -/
theorem blks_cover (c : Dev nD) : (Finset.univ : Finset (Fin 4 × Col)).biUnion (fun t => (outRect c t.2.1 t.1 t.2.2).set) = Finset.univ :=
  Finset.eq_univ_iff_forall.mpr fun y => by
    have h0 : (y 0).val < 2048 := (y 0).isLt
    obtain ⟨g, hg⟩ := row_surj c (dirOf (y 1)) ⟨(y 0).val / 512, by omega⟩
    exact Finset.mem_biUnion.mpr ⟨(g, dirOf (y 1), colOf (y 1)), Finset.mem_univ _,
      (mem_blk _ _ _ _ _ (outAt_eq c _ g _) y).mpr ⟨(congrArg Fin.val hg).symm, rfl, rfl⟩⟩

/-- The result read on a block is what was computed there. -/
theorem out_blk (off : Fin 2 → ℕ) (inb) (r : Fin 4) (b : Bool) (s : Fin 4) (e : off = ![512 * r.val, colN b s]) (j : S512x256.Idx) :
    outC xs ws ((Rect.unit (s := S2048x2048) off S512x256.size inb).emb j) = flat (V xs ws 3 (doer b r) b s) j := by
  subst e
  generalize hy : (Rect.unit (s := S2048x2048) ![512 * r.val, colN b s] S512x256.size inb).emb j = y
  have e0 : (y 0).val = 512 * r.val + (j 0).val := by rw [← hy]; simp [Rect.emb, Rect.unit]
  have e1 : (y 1).val = colN b s + (j 1).val := by rw [← hy]; simp [Rect.emb, Rect.unit]
  have h0 : (j 0).val < 512 := (j 0).isLt
  have h1 : (j 1).val < 256 := (j 1).isLt
  have hm := (mem_blk _ inb r b s rfl y).mp (by
    rw [← hy, ← Rect.map_emb_univ]; exact Finset.mem_map_of_mem _ (Finset.mem_univ j))
  obtain ⟨a1, a2, a3⟩ := hm
  unfold outC
  have er : (⟨(y 0).val / 512, by have : (y 0).val < 2048 := (y 0).isLt; omega⟩ : Fin 4) = r := Fin.ext a1
  have hc : colN b s % 256 = 0 := by cases b <;> simp [colN] <;> omega
  rw [er, a2, a3]
  congr 1
  funext a
  refine Fin.ext ?_
  fin_cases a
  · show (y 0).val % 512 = (j 0).val
    omega
  · show (y 1).val % 256 = (j 1).val
    omega

/-- The result in blocks, whatever is there. -/
theorem out_split (c : Dev nD) : any (F := F) c (Memref.whole main_v1 : Memref sig .tc .hbm S2048x2048 .bf16)
    ⊢ bigSep Finset.univ fun g : Fin 4 => BS fun k => any c (oBlk c k.1 g k.2) := by
  rw [← bigSep_univ_prod (fun t : Fin 4 × Col => any (F := F) c (oBlk c t.2.1 t.1 t.2.2))]
  exact any_split c _ (fun t : Fin 4 × Col => outRect c t.2.1 t.1 t.2.2) _ (blks_apart c) (blks_cover c)

/-- The finished blocks are the finished result. -/
theorem out_join (c : Dev nD) : (bigSep Finset.univ fun g : Fin 4 => outDone xs ws c g)
    ⊢ own c (Memref.whole main_v1 : Memref sig .tc .hbm S2048x2048 .bf16) fullShare (outC xs ws) := by
  rw [← bigSep_univ_prod (fun t : Fin 4 × Col => (own c (oBlk c t.2.1 t.1 t.2.2) fullShare (flat (V xs ws (t.1.val + 3) c t.2.1 t.2.2)) : sProp 𝕄))]
  rw [show (fun t : Fin 4 × Col => (own c (oBlk c t.2.1 t.1 t.2.2) fullShare (flat (V xs ws (t.1.val + 3) c t.2.1 t.2.2)) : sProp 𝕄))
    = fun t => own c (oBlk c t.2.1 t.1 t.2.2) fullShare (fun j => outC xs ws ((outRect c t.2.1 t.1 t.2.2).emb j)) from funext fun t => by
      rw [V_row]
      exact congrArg (fun X => (own c (oBlk c t.2.1 t.1 t.2.2) fullShare X : sProp 𝕄))
        (funext fun j => (out_blk xs ws _ _ _ _ _ (outAt_eq c t.2.1 t.1 t.2.2) j).symm)]
  exact owns_of_rects (c : Thread nD τ) (Memref.whole main_v1 : Memref sig .tc .hbm S2048x2048 .bf16) fullShare
    (fun t : Fin 4 × Col => outRect c t.2.1 t.1 t.2.2) _ (blks_apart c) (blks_cover c) (outC xs ws)

end Cert.KernelIdeal.Own
-- ==== Proof.Ghost.lean ====
/- What the launch deals the devices: the semaphores' schedules opened, the duties handed to whom pays
   them, and the credits for what is owed. -/
module

public import proofs.«01_k».proof.Proof.Split

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S2048x512 .bf16) (ws : Dev nD → Vec F S512x2048 .bf16)

/-! ## Regrouping by kind -/

/-- Over all transfers: over the sends, the arrivals and the copies to the result. -/
theorem kinds (Φ : Kind → sProp 𝕄) : bigSep Finset.univ Φ
    = iprop((bigSep Finset.univ fun h : Fin 6 => BS fun k => Φ (.inl h, k))
      ∗ (bigSep Finset.univ fun h : Fin 6 => BS fun k => Φ (.inr (.inl h), k))
      ∗ (bigSep Finset.univ fun g : Fin 4 => BS fun k => Φ (.inr (.inr g), k))) := by
  rw [bigSep_univ_prod, bigSep_univ_sum, bigSep_univ_sum]; rfl

/-- Over all semaphores: the barrier's and the transfers'. -/
theorem opts (Φ : Option Kind → sProp 𝕄) : bigSep Finset.univ Φ = iprop(Φ none ∗ bigSep Finset.univ fun k => Φ (some k)) := by
  rw [bigSep_univ_equiv (Equiv.optionEquivSumPUnit.{0} Kind).symm Φ, bigSep_univ_sum]
  rw [show (bigSep Finset.univ fun b : PUnit => Φ ((Equiv.optionEquivSumPUnit.{0} Kind).symm (.inr b))) = Φ none from
    bigSep_singleton]
  exact BI.Entails.antisymm BI.sep_comm BI.sep_comm

/-- A turn of the ring for each index moves nothing out of the whole. -/
theorem turned {J : Type} [Fintype J] (e : J → Dev nD ≃ Dev nD) (Φ : Dev nD → J → sProp 𝕄) :
    (bigSep Finset.univ fun c => bigSep Finset.univ fun j => Φ c j) = bigSep Finset.univ fun c => bigSep Finset.univ fun j => Φ (e j c) j := by
  rw [BI.bigSep_univ_comm, BI.bigSep_univ_comm (fun c j => Φ (e j c) j)]
  exact bigSep_congr fun j _ => bigSep_univ_equiv (e j) fun c => Φ c j

/-! ## The schedules opened -/

/-- No two of the machine's semaphores in the schedule are the same. -/
theorem kcell_injective : Function.Injective (fun ck : Dev nD × Option Kind => kcell ck.1 ck.2) := by
  rintro ⟨c, k⟩ ⟨c', k'⟩ h
  have h1 : c = c' := congrArg (fun g : GSem nD τ sig => g.1.1) h
  have h2 : k = k' := csem_inj (congrArg Prod.snd h)
  rw [h1, h2]
/-- All of them. -/
def cellSet : Finset (GSem nD τ sig) := Finset.univ.map ⟨_, kcell_injective⟩

/-- A duty: a neighbour's signal, or a transfer. -/
abbrev Duty : Type := Bool ⊕ Kind
/-- Its semaphore, round and name. -/
abbrev tokOf (cj : Dev nD × Duty) : GSem nD τ sig × ℕ × Bool :=
  match cj.2 with | .inl d => (kcell cj.1 none, 0, d) | .inr k => (kcell cj.1 (some k), 0, false)
/-- No two duties are the same. -/
theorem tokOf_injective : Function.Injective tokOf := by
  rintro ⟨c, j⟩ ⟨c', j'⟩ h
  have hc : c = c' := by
    have := congrArg (fun x : GSem nD τ sig × ℕ × Bool => x.1.1.1) h
    rcases j with j | j <;> rcases j' with j' | j' <;> exact this
  have hs := congrArg (fun x : GSem nD τ sig × ℕ × Bool => x.1.2) h
  have hd := congrArg (fun x : GSem nD τ sig × ℕ × Bool => x.2.2) h
  subst hc
  rcases j with j | j <;> rcases j' with j' | j'
  · have e : j = j' := hd
    rw [e]
  · exact absurd (csem_inj (a₁ := none) (a₂ := some j') hs) (by simp)
  · exact absurd (csem_inj (a₁ := some j) (a₂ := none) hs) (by simp)
  · have e : some j = some j' := csem_inj hs
    rw [Option.some.inj e]
/-- All duties. -/
def tokSet : Finset (GSem nD τ sig × ℕ × Bool) := Finset.univ.map ⟨tokOf, tokOf_injective⟩

/-- The ghost state at launch. -/
def u₀ : UU := (initOf (Pipeline.cells cfgs cellOf_inj) (Pipeline.launchToks cfgs cellOf_inj), initOf cellSet tokSet)

/-- The duties on a device's own semaphores. -/
def toks (c : Dev nD) : sProp 𝕄 :=
  iprop((bigSep Finset.univ fun d : Bool => dutyTok ER (kcell c none) 0 d) ∗ bigSep Finset.univ fun k : Kind => dutyTok ER (kcell c (some k)) 0 false)

/-- What each device is dealt at first. -/
def dealt (c : Dev nD) : sProp 𝕄 :=
  iprop((bigSep Finset.univ fun k : Option Kind => roundState ER (Rd xs ws) (kcell c k) 0)
    ∗ (bigSep Finset.univ fun k : Option Kind => atPos ER (kcell c k) 0 ∅ 0)
    ∗ (bigSep Finset.univ fun k : Option Kind => reached ER (kcell c k) 0) ∗ toks c)

/-- The ghost state at launch is what the devices are dealt. -/
theorem deal : BI.own (ER (initOf cellSet tokSet)) ⊢ (|==> bigSep Finset.univ (dealt xs ws) : sProp 𝕄) := by
  have hX (Φ : GSem nD τ sig → sProp 𝕄) : bigSep cellSet Φ = bigSep Finset.univ fun c : Dev nD => bigSep Finset.univ fun k : Option Kind => Φ (kcell c k) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by unfold toks; rw [bigSep_univ_sum]; rfl
  iintro HX
  imod (Rounds.fund ER (Rd xs ws) cellSet tokSet) $$ HX with ⟨Hst, Hr, Hat, Htok⟩
  imodintro
  ihave Hst := (Entails.of_eq (hX fun g => roundState ER (Rd xs ws) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat]; · iexact Hat
  isplitl [Hr]; · iexact Hr
  iexact Htok

/-- The launch's one unscoped semaphore is the barrier's. -/
theorem unscopedSems0_eq (c : Dev nD) : (unscopedSems0 c : sProp 𝕄) = semVal (kcell c none) 0 := by
  unfold unscopedSems0; rw [bigSep_eq_bigSepL_of_eq [SemLoc.reg barS] (by decide) (by decide)]; rfl

/-- The kernel's own semaphores are the transfers'. -/
theorem ownSemFacts : Pipeline.OwnSemFacts cfg0.spec osem := by decide +kernel

/-- The kernel's own semaphores, at zero. -/
theorem ownSems0_eq (c : Dev nD) : (Pipeline.ownSems0 (Ix := Unit) (Name := ℕ) (U := UU) (Lvl := ℕ) (Val := Elt F) (τ := τ) osem c : sProp 𝕄)
    = bigSep Finset.univ fun k : Kind => semVal (kcell c (some k)) 0 := rfl

/-- A device's semaphores put under the schedule. -/
theorem core_alloc (c : Dev nD) :
    iprop(Pipeline.ownSems0 (Ix := Unit) (Name := ℕ) (U := UU) (Lvl := ℕ) (Val := Elt F) (τ := τ) osem c ∗ unscopedSems0 c ∗ dealt xs ws c)
      ⊢ |={Set.univ}=> iprop((bigSep Finset.univ fun k : Option Kind => iprop(∃ κ : ℕ, cellInv ER (Rd xs ws) κ (kcell c k)))
          ∗ (bigSep Finset.univ fun k : Option Kind => atPos ER (kcell c k) 0 ∅ 0)
          ∗ (bigSep Finset.univ fun k : Option Kind => reached ER (kcell c k) 0) ∗ toks c) := by
  unfold dealt
  rw [ownSems0_eq, unscopedSems0_eq]
  iintro ⟨Hos, Hus, Hst, Hat⟩
  imod (show iprop((bigSep Finset.univ fun k : Option Kind => semVal (kcell c k) 0) ∗ bigSep Finset.univ fun k : Option Kind => roundState ER (Rd xs ws) (kcell c k) 0)
      ⊢ (|={Set.univ}=> bigSep Finset.univ fun k => iprop(∃ κ : ℕ, cellInv ER (Rd xs ws) κ (kcell c k)) : sProp 𝕄) from by
        rw [← bigSep_sep']
        exact (bigSep_mono fun k _ => (Rounds.body_intro ER (Rd xs ws) (kcell c k)).trans inv_alloc).trans (bigSep_fupd _ _)) $$ [Hos Hus Hst] with Hinv
  · isplitl [Hos Hus]
    · iapply (Entails.of_eq (opts fun k => (semVal (kcell c k) 0 : sProp 𝕄)).symm)
      isplitl [Hus] <;> iassumption
    iexact Hst
  imodintro
  isplitl [Hinv]; · iexact Hinv
  iexact Hat

/-! ## The duties handed around -/

/-- The duties a device pays. -/
def payToks (c : Dev nD) : sProp 𝕄 :=
  iprop((dutyTok ER (kcell (frm false c) none) 0 false ∗ dutyTok ER (kcell (frm true c) none) 0 true)
    ∗ (bigSep Finset.univ fun h : Fin 6 => BS fun k => dutyTok ER (sC c h k.1 k.2) 0 false)
    ∗ (bigSep Finset.univ fun h : Fin 6 => BS fun k => dutyTok ER (rC (peer k.1 c) h k.1 k.2) 0 false)
    ∗ (bigSep Finset.univ fun g : Fin 4 => BS fun k => dutyTok ER (oC c g k.1 k.2) 0 false))

/-- The signals go to both neighbours, the arrivals to the one a direction sends to. -/
theorem toks_around : (bigSep Finset.univ fun c : Dev nD => (toks c : sProp 𝕄)) ⊢ bigSep Finset.univ fun c : Dev nD => payToks c := by
  unfold toks payToks
  simp only [kinds, bigSep_sep']
  rw [turned (fun b => turn (!b)) (fun c b => (dutyTok ER (kcell c none) 0 b : sProp 𝕄))]
  have hr : (bigSep Finset.univ fun c : Dev nD => bigSep Finset.univ fun h : Fin 6 => BS fun k => (dutyTok ER (rC c h k.1 k.2) 0 false : sProp 𝕄))
      = bigSep Finset.univ fun c : Dev nD => bigSep Finset.univ fun h : Fin 6 => BS fun k => (dutyTok ER (rC (peer k.1 c) h k.1 k.2) 0 false : sProp 𝕄) := by
    rw [BI.bigSep_univ_comm, BI.bigSep_univ_comm (fun (c : Dev nD) (h : Fin 6) => BS fun k => (dutyTok ER (rC (peer k.1 c) h k.1 k.2) 0 false : sProp 𝕄))]
    exact bigSep_congr fun h _ => turned (fun k : Col => turn k.1) (fun c k => (dutyTok ER (rC c h k.1 k.2) 0 false : sProp 𝕄))
  iintro ⟨H1, H2, H3, H4⟩
  isplitl [H1]
  · rw [← bigSep_sep']
    iapply (Entails.of_eq (bigSep_congr (s := Finset.univ) fun (c : Dev nD) _ => dirs (fun b => (dutyTok ER (kcell (frm b c) none) 0 b : sProp 𝕄))))
    iexact H1
  isplitl [H2]; · iexact H2
  isplitl [H3]
  · iapply (Entails.of_eq hr); iexact H3
  iexact H4

/-- What stays with a device: its positions and the duties it pays. -/
def lin (c : Dev nD) : sProp 𝕄 :=
  iprop((bigSep Finset.univ fun k : Option Kind => atPos ER (kcell c k) 0 ∅ 0) ∗ payToks c)

/-- What a device knows and has once the machine is set up. -/
def given (c : Dev nD) : sProp 𝕄 := iprop(∃ K, records xs ws K ∗ lin c)

/-- What everyone knows goes to each. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices set up at once. -/
theorem setup :
    (bigSep Finset.univ fun c : Dev nD => iprop((bigSep Finset.univ fun k : Option Kind => iprop(∃ κ : ℕ, cellInv ER (Rd xs ws) κ (kcell c k)))
          ∗ (bigSep Finset.univ fun k : Option Kind => atPos ER (kcell c k) 0 ∅ 0)
          ∗ (bigSep Finset.univ fun k : Option Kind => reached ER (kcell c k) 0) ∗ toks c) : sProp 𝕄)
      ⊢ bigSep Finset.univ (given xs ws) := by
  rw [bigSep_sep', bigSep_sep', bigSep_sep', ← bigSep_univ_prod (fun ck : Dev nD × Option Kind => iprop(∃ κ : ℕ, cellInv ER (Rd xs ws) κ (kcell ck.1 ck.2))),
    ← bigSep_univ_prod (fun ck : Dev nD × Option Kind => (reached ER (kcell ck.1 ck.2) 0 : sProp 𝕄))]
  iintro ⟨HI, Hat, #HR, Htok⟩
  ihave HK := (BI.bigSep_exists_pi Finset.univ (fun (ck : Dev nD × Option Kind) (κ : ℕ) => (cellInv ER (Rd xs ws) κ (kcell ck.1 ck.2) : sProp 𝕄))) $$ HI
  icases HK with ⟨%K, #HI⟩
  ihave Htk := (toks_around (F := F)) $$ Htok
  iapply (with_all (R := records xs ws K) (Φ := lin) fun c _ => show iprop(records xs ws K ∗ lin c) ⊢ given xs ws c from by
    unfold given; iintro H; iexists K; iexact H)
  isplitr
  · unfold records; isplitl; · iexact HI
    iexact HR
  · unfold lin; rw [bigSep_sep']
    isplitl [Hat]; · iexact Hat
    iexact Htk

/-- From the semaphores at zero to every device set up. -/
theorem glob : (bigSep Finset.univ fun c => iprop(Pipeline.ownSems0 (Ix := Unit) (Name := ℕ) (U := UU) (Lvl := ℕ) (Val := Elt F) (τ := τ) osem c ∗ unscopedSems0 c ∗ dealt xs ws c) : sProp 𝕄)
    ⊢ |={Set.univ}=> bigSep Finset.univ (given xs ws) :=
  ((bigSep_mono fun c _ => core_alloc xs ws c).trans (bigSep_fupd _ _)).trans (BI.fupd_mono (setup xs ws))

/-! ## The credits -/

/-- The place of a transfer among the 48 a device sends, from the end. -/
def place (q : Fin 6 × Col) : Fin 48 := ⟨47 - (8 * q.1.val + 2 * q.2.2.val + q.2.1.toNat), by omega⟩
/-- Each place is one transfer's. -/
theorem place_bij : Function.Bijective place := by decide +kernel

/-- What is owed for arrivals at launch. -/
theorem owed_all (c : Dev nD) : owed c 48 = ∑ q : Fin 6 × Col, tallyAt (rC (peer q.2.1 c) q.1 q.2.1 q.2.2) () N := by
  have h : ∀ n, owed c n = ∑ i ∈ Finset.range n, tallyAt (dueC c ⟨47 - i, by omega⟩) () N := fun n => by
    induction n with
    | zero => rfl
    | succ n ih => rw [Finset.sum_range_succ, ← ih]; rfl
  rw [h 48, Finset.sum_range, ← Equiv.sum_comp (Equiv.ofBijective place place_bij)]
  refine Finset.sum_congr rfl fun q _ => ?_
  obtain ⟨h, b, s⟩ := q
  have hb : b.toNat < 2 := by cases b <;> simp
  refine add_left_cancel (a := owed c (place (h, b, s)).val) ?_
  refine Eq.trans ?_ (owed_send c h b s (place (h, b, s)).val (by simp only [place]; omega))
  rfl

/-- The credits a device starts with. -/
theorem creds (c : Dev nD) : (Pipeline.launchCred O₀ c : sProp 𝕄)
    ⊢ iprop(cred (tallyAt (kcell c none) () 2) ∗ bigSep Finset.univ fun h : Fin 6 => BS fun k => cred (tallyAt (rC c h k.1 k.2) () N)) := by
  rw [show (O₀ : Dev nD → CellTallies nD τ sig Unit) = fun d => O₁ d + tallyAt (kcell (frm false d) none) () 1 from rfl, Pipeline.launchCred_add,
    show (O₁ : Dev nD → CellTallies nD τ sig Unit) = fun d => owed d 48 + tallyAt (kcell (frm true d) none) () 1 from rfl, Pipeline.launchCred_add,
    show (fun d : Dev nD => owed d 48) = fun d => ∑ q : Fin 6 × Col, tallyAt (rC (peer q.2.1 d) q.1 q.2.1 q.2.2) () N from funext owed_all,
    Pipeline.launchCred_sum Finset.univ (fun (q : Fin 6 × Col) (d : Dev nD) => tallyAt (rC (peer q.2.1 d) q.1 q.2.1 q.2.2) () N)]
  have hb (b : Bool) : (Pipeline.launchCred (fun d : Dev nD => tallyAt (kcell (frm b d) none) () 1) c : sProp 𝕄) ⊢ cred (tallyAt (kcell c none) () 1) :=
    Pipeline.launchCred_tallyAt (csem none) (frm b) (peer b) (fun d => frm_peer b d) (fun d => peer_frm b d) () 1 c
  have hr : (bigSep Finset.univ fun q : Fin 6 × Col => (Pipeline.launchCred (fun d : Dev nD => tallyAt (rC (peer q.2.1 d) q.1 q.2.1 q.2.2) () N) c : sProp 𝕄))
      ⊢ bigSep Finset.univ fun q : Fin 6 × Col => cred (tallyAt (rC c q.1 q.2.1 q.2.2) () N) :=
    bigSep_mono fun q _ => Pipeline.launchCred_tallyAt (csem (some (.inr (.inl q.1), q.2.1, q.2.2))) (peer q.2.1) (frm q.2.1)
      (fun d => peer_frm q.2.1 d) (fun d => frm_peer q.2.1 d) () N c
  iintro ⟨⟨H, H1⟩, H0⟩
  ihave H0 := (hb false) $$ H0
  ihave H1 := (hb true) $$ H1
  ihave H := hr $$ H
  isplitl [H0 H1]
  · rw [show (tallyAt (kcell c none) () 2 : CellTallies nD τ sig Unit) = tallyAt (kcell c none) () 1 + tallyAt (kcell c none) () 1 from
      (tallyAt_add (kcell c none) () 1 1).symm]
    iapply (cred_add _ _).2
    isplitl [H0] <;> iassumption
  · iapply (Entails.of_eq (bigSep_univ_prod fun q : Fin 6 × Col => (cred (tallyAt (rC c q.1 q.2.1 q.2.2) () N) : sProp 𝕄)))
    iexact H

/-- All a device starts its body from. -/
theorem start_of (c : Dev nD) :
    iprop(lin c ∗ (cred (tallyAt (kcell c none) () 2) ∗ bigSep Finset.univ fun h : Fin 6 => BS fun k => cred (tallyAt (rC c h k.1 k.2) () N))
      ∗ (bigSep Finset.univ fun g : Fin 4 => BS fun k => any c (oBlk c k.1 g k.2))
      ∗ (bigSep Finset.univ fun h : Fin 4 => BS (fun k => any c (sSl k.1 (sl16 h k.2))))
      ∗ slots c false ∗ slots c true
      ∗ (∃ f : Buf (Elt F) ((c : Thread nD τ).loc cc0_scratch1), ((c : Thread nD τ).loc cc0_scratch1) ↦{fullShare} f)
      ∗ (∃ f : Buf (Elt F) ((c : Thread nD τ).loc cc0_scratch0), ((c : Thread nD τ).loc cc0_scratch0) ↦{fullShare} f))
    ⊢ start c := by
  unfold lin payToks start barTok rTok oTok pos
  rw [opts, kinds]
  simp only [bigSep_sep']
  iintro ⟨⟨⟨Hp, Hps, Hpr, Hpo⟩, ⟨Ht0, Ht1⟩, Hts, Htr, Hto⟩, ⟨Hc, Hcr⟩, Ho, Hrest⟩
  isplitl [Hp Ht0 Ht1 Hc]
  · isplitl [Ht0]; · iexact Ht0
    isplitl [Ht1]; · iexact Ht1
    isplitl [Hc] <;> iassumption
  isplitl [Hps Hpr Hts Htr Hcr]
  · isplitl [Hts Htr]; · isplitl [Hts] <;> iassumption
    isplitl [Hpr Hcr]; · isplitl [Hcr] <;> iassumption
    iexact Hps
  isplitl [Hto Ho Hpo]
  · isplitl [Hto Ho]; · isplitl [Hto] <;> iassumption
    iexact Hpo
  iexact Hrest

end Cert.KernelIdeal.Own
-- ==== Proof.BodyEq.lean ====
/- The printed body is the body over the direction and the slot. -/
module

public import proofs.«01_k».proof.Proof.Body

@[expose] public section

noncomputable section

namespace Cert.KernelIdeal.Own

open Cert.KernelIdeal Cert.KernelIdeal.Gen
open Idealize.ShloMosaic Idealize.SL.Sem

variable {F : FTy → Type} [FloatOps F]

set_option maxRecDepth 65536 in
/-- The printed body, at the buffers and semaphores the launch gives it, is `body`. -/
theorem body_eq (t : Fin cfg0.N) : bodyAt0 (F := F) t = body (win0_0.stage (cfg0.slots t 0)) (win0_1.stage (cfg0.slots t 1)) := by
  chain_rfl

end Cert.KernelIdeal.Own
-- ==== Proof.Run.lean ====
/- The kernel launched on the four devices: every run ends, with the result in place on every device. -/
module

public import proofs.«01_k».proof.Proof.Ghost
public import proofs.«01_k».proof.Proof.BodyEq
public import proofs.«01_k».proof.Proof.Gen.KernelIdeal.Frame
public import Idealize.ShloMosaic.Lib.Pipeline.CollectiveSegs
public import Idealize.ShloMosaic.Lib.Pipeline.Value

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The activations staged on a device. -/
def xIn (c : Dev nD) : Vec F S2048x512 .bf16 := iblk m c 0 t0_0
/-- The weights staged on a device. -/
def wIn (c : Dev nD) : Vec F S512x2048 .bf16 := iblk m c 1 t0_0

/-- What the body starts from besides the staged blocks, and what it leaves. -/
def Φ₀ (c : Dev nD) : sProp 𝕄 := iprop(∃ K, Ctx (xIn m) (wIn m) K ∗ start c)

/-- The pipeline's data: the arrays as launched, the staged blocks left in place. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wIn m c
  Φ t := match t with
    | ⟨0, _⟩ => Φ₀ m c
    | ⟨_ + 1, _⟩ => done (xIn m) (wIn m) c
  q _ := fullShare
  owed t := match t with
    | ⟨0, _⟩ => O₀ c
    | ⟨_ + 1, _⟩ => 0

/-- A staged block as the body holds it. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body is entered with. -/
def bodyPre (c : Dev nD) : sProp 𝕄 :=
  iprop(Φ₀ m c ∗ (dats m 0 c).owesAt () (t0_0 : Fin cfg0.N).castSucc
    ∗ (∃ d, stg c cc0_stg0_0 ((dats m 0 c).before (0 : Fin 2) t0_0 d))
    ∗ (∃ d, stg c cc0_stg1_0 ((dats m 0 c).before (1 : Fin 2) t0_0 d)))
/-- What it is left with. -/
def bodyPost (c : Dev nD) : sProp 𝕄 :=
  iprop(done (xIn m) (wIn m) c ∗ (dats m 0 c).owesAt () (t0_0 : Fin cfg0.N).succ
    ∗ stg c cc0_stg0_0 (xIn m c) ∗ stg c cc0_stg1_0 (wIn m c))

/-- The staged activations are there when the body starts. -/
theorem before_x (c : Dev nD) (d) : (dats m 0 c).before (0 : Fin 2) t0_0 d = xIn m c := by
  unfold Dat.before; rw [if_pos (fetch0_0 t0_0)]; rfl
/-- So are the staged weights. -/
theorem before_w (c : Dev nD) (d) : (dats m 0 c).before (1 : Fin 2) t0_0 d = wIn m c := by
  unfold Dat.before; rw [if_pos (fetch0_1 t0_0)]; rfl

/-- What the body leaves. -/
theorem body_post (c : Dev nD) : iprop(done (xIn m) (wIn m) c ∗ owe c 0 ∗ xAt (xIn m) c ∗ wAt (wIn m) c) ⊢ bodyPost m c := by
  unfold bodyPost xAt wAt owe Dat.owesAt Pipeline.owesWithin
  iintro ⟨Hd, ⟨%W, HO⟩, Hx, Hw⟩
  isplitl [Hd]; · iexact Hd
  isplitl [HO]
  · iexists W
    isplitr; · ipureintro; exact fun _ _ => Or.inl trivial
    iexact HO
  isplitl [Hx]
  · iexists _; isplitr; · (ipureintro; rfl)
    iexact Hx
  · iexists _; isplitr; · (ipureintro; rfl)
    iexact Hw

/-- The body between the two. -/
theorem body_sound (c : Dev nD) : bodyPre m c
    ⊢ run c (body (Memref.whole cc0_stg0_0 : Memref sig .tc .vmem S2048x512 .bf16) (Memref.whole cc0_stg1_0 : Memref sig .tc .vmem S512x2048 .bf16)) fun _ => bodyPost m c := by
  unfold bodyPre Φ₀
  simp only [before_x, before_w]
  unfold Dat.owesAt Pipeline.owesWithin
  iintro ⟨⟨%K, HC, Hs⟩, ⟨%W, -, HO⟩, ⟨%d0, %f0, %h0, Hx⟩, ⟨%d1, %f1, %h1, Hw⟩⟩
  subst h0; subst h1
  iapply (show iprop(Ctx (xIn m) (wIn m) K ∗ start c ∗ (∃ W, owes (c : Thread nD τ) (O₀ c) W) ∗ xAt (xIn m) c ∗ wAt (wIn m) c)
      ⊢ run c (body (Memref.whole cc0_stg0_0 : Memref sig .tc .vmem S2048x512 .bf16) (Memref.whole cc0_stg1_0 : Memref sig .tc .vmem S512x2048 .bf16)) fun _ => bodyPost m c
    from BIBase.Entails.trans (body_run (xIn m) (wIn m) K c) (wp_mono _ _ _ fun _ => body_post m c))
  isplitl [HC]; · iexact HC
  isplitl [Hs]; · iexact Hs
  isplitl [HO]; · iexists W; iexact HO
  isplitl [Hx]
  · unfold xAt; iexact Hx
  · unfold wAt; iexact Hw

set_option maxRecDepth 100000 in
/-- What the pipeline asks of the body. -/
theorem body_obligation (c : Dev nD) : BodyObligation (dats (F := F) m 0 c) (defs₀ (F := F)) 𝒱₀ () Set.univ := fun t => by
  rw [show t = (t0_0 : Fin cfg0.N) from fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole_eq]
  show bodyPre m c ⊢ wp frame (wpE (defs₀ (F := F)) 𝒱₀ c none) Set.univ (bodyAt0 t0_0) (fun _ => bodyPost m c)
  rw [body_eq]
  exact body_sound m c

/-! ## The launch -/

/-- All shares are whole. -/
theorem share_eq (c : Dev nD) (w : Fin cfg0.W) : (dats m 0 c).share w = fullShare := by unfold Dat.share; split <;> rfl

/-- What a device takes into its body besides the scoped buffers. -/
def enter (c : Dev nD) : sProp 𝕄 :=
  iprop(∃ K, Ctx (xIn m) (wIn m) K ∗ lin c
    ∗ (cred (tallyAt (kcell c none) () 2) ∗ bigSep Finset.univ fun h : Fin 6 => BS fun k => cred (tallyAt (rC c h k.1 k.2) () N))
    ∗ (bigSep Finset.univ fun g : Fin 4 => BS fun k => any c (oBlk c k.1 g k.2)))

/-- A send buffer at some contents is the whole buffer held, whatever is there. -/
theorem any_send (c : Dev nD) (b : Bool) : any (F := F) c (sBuf b)
    = iprop(∃ f : Buf (Elt F) ((c : Thread nD τ).loc (sRef b)), ((c : Thread nD τ).loc (sRef b)) ↦{fullShare} f) := by
  cases b <;> · unfold any own sBuf; simp only [owns_whole]; rfl

/-- The receive buffer of a direction. -/
abbrev rRef (b : Bool) : Ref sig .tc := match b with | false => cc0_scratch4 | true => cc0_scratch5

/-- So is a receive buffer. -/
theorem any_recv (c : Dev nD) (b : Bool) : any (F := F) c (rBuf b)
    = iprop(∃ f : Buf (Elt F) ((c : Thread nD τ).loc (rRef b)), ((c : Thread nD τ).loc (rRef b)) ↦{fullShare} f) := by
  cases b <;> · unfold any own rBuf; simp only [owns_whole]; rfl

/-- The send slots, direction by direction or hop by hop. -/
theorem sends_hops (c : Dev nD) : (bigSep Finset.univ fun b : Bool => any (F := F) c (sBuf b))
    ⊣⊢ bigSep Finset.univ fun h : Fin 4 => BS fun k => any c (sSl k.1 (sl16 h k.2)) := by
  have e : (bigSep Finset.univ fun b : Bool => bigSep Finset.univ fun h : Fin 4 => bigSep Finset.univ fun s : Fin 4 => any (F := F) c (sSl b (sl16 h s)))
      = bigSep Finset.univ fun h : Fin 4 => BS fun k => any c (sSl k.1 (sl16 h k.2)) := by
    rw [bigSep_univ_comm]
    exact bigSep_congr fun h _ => (bigSep_univ_prod (fun k : Col => any (F := F) c (sSl k.1 (sl16 h k.2)))).symm
  constructor
  · exact BIBase.Entails.trans (show _ ⊢ _ from bigSep_mono fun b _ => (send_slots c b).1) (Entails.of_eq e)
  · exact BIBase.Entails.trans (Entails.of_eq e.symm) (show _ ⊢ _ from bigSep_mono fun b _ => (send_slots c b).2)

/-- Into the launch: what a device brings besides its scoped buffers. -/
theorem enter_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given (xIn m) (wIn m) c)
      ⊢ |={Set.univ}=> iprop(enter m c ∗ emp) := by
  rw [Pipeline.unscopedRestP_none]
  rw [show (Pipeline.unscopedRest cfg0.spec c (fun b => m ((c : Thread nD τ).loc b)) : sProp 𝕄) = _ from unscopedRest0_eq c _]
  unfold given enter Ctx
  iintro ⟨Hv, Hlev, Hcr, -, ⟨%K, HR, HG⟩⟩
  imodintro
  isplitl
  · iexists K
    isplitl [HR Hlev]; · isplitl [HR] <;> iassumption
    isplitl [HG]; · iexact HG
    isplitl [Hcr]; · iapply (creds (F := F) c); iexact Hcr
    iapply (out_split (F := F) c)
    iapply (any_intro c (Memref.whole main_v1 : Memref sig .tc .hbm S2048x2048 .bf16) (m ((c : Thread nD τ).loc main_v1)))
    iapply (Entails.of_eq (owns_whole (c : Thread nD τ) main_v1 fullShare (m ((c : Thread nD τ).loc main_v1))).symm)
    iexact Hv
  · iempintro

/-- With its scoped buffers, it can start. -/
theorem phi_in (c : Dev nD) :
    iprop(enter m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold enter Φ₀
  iintro ⟨⟨%K, HC, Hlin, Hcr, Ho⟩, -, H0, H1, H2, H3, H4, H5⟩
  ihave H2 := (Entails.of_eq (any_send (F := F) c false).symm) $$ H2
  ihave H3 := (Entails.of_eq (any_send (F := F) c true).symm) $$ H3
  ihave H4 := (Entails.of_eq (any_recv (F := F) c false).symm) $$ H4
  ihave H5 := (Entails.of_eq (any_recv (F := F) c true).symm) $$ H5
  iexists K
  isplitl [HC]; · iexact HC
  iapply (start_of (F := F) c)
  isplitl [Hlin]; · iexact Hlin
  isplitl [Hcr]; · iexact Hcr
  isplitl [Ho]; · iexact Ho
  isplitl [H2 H3]
  · iapply (sends_hops (F := F) c).1
    iapply (Entails.of_eq (dirs fun b => any (F := F) c (sBuf b)).symm)
    isplitl [H2] <;> iassumption
  isplitl [H4]; · iapply (recv_slots (F := F) c false).1; iexact H4
  isplitl [H5]; · iapply (recv_slots (F := F) c true).1; iexact H5
  isplitl [H1] <;> iassumption

/-- What a device leaves the launch with: the barrier at zero and the result. -/
def leave (c : Dev nD) : sProp 𝕄 :=
  iprop(unscopedSems0 c ∗ (((c : Thread nD τ).loc main_v1) ↦{fullShare} (outC (xIn m) (wIn m) : Buf (Elt F) ((c : Thread nD τ).loc main_v1))))

/-- Done, all goes back. -/
theorem phi_out (c : Dev nD) :
    (dats m 0 c).Φ (Fin.last cfg0.N) ⊢ iprop(leave m c ∗ Pipeline.ownSems0 osem c ∗ Pipeline.scopedRest cfg0.spec c) := by
  rw [show (dats m 0 c).Φ (Fin.last cfg0.N) = done (xIn m) (wIn m) c from rfl, scopedRest0_eq, ownSems0_eq, kinds]
  unfold leave done fin
  rw [unscopedSems0_eq, bigSep_sep']
  iintro ⟨Hz, ⟨Hs, Hr⟩, Ho, Hout, HS, HR, H1, H0⟩
  isplitl [Hz Hout]
  · isplitl [Hz]; · iexact Hz
    iapply (Entails.of_eq (owns_whole (c : Thread nD τ) main_v1 fullShare (outC (xIn m) (wIn m))))
    iapply (out_join (xIn m) (wIn m) c); iexact Hout
  isplitl [Hs Hr Ho]
  · isplitl [Hs]; · iexact Hs
    isplitl [Hr] <;> iassumption
  ihave HS := (sends_hops (F := F) c).2 $$ HS
  ihave HS := (Entails.of_eq (dirs fun b => any (F := F) c (sBuf b))) $$ HS
  ihave HR := (Entails.of_eq (slots_hops (F := F) fun _ => c).symm) $$ HR
  ihave HR := (Entails.of_eq (dirs fun b => slots (F := F) c b)) $$ HR
  icases HS with ⟨H2, H3⟩
  icases HR with ⟨H4, H5⟩
  isplitl [H0]; · iexact H0
  isplitl [H1]; · iexact H1
  isplitl [H2]; · iapply (Entails.of_eq (any_send (F := F) c false)); iexact H2
  isplitl [H3]; · iapply (Entails.of_eq (any_send (F := F) c true)); iexact H3
  isplitl [H4]; · iapply (Entails.of_eq (any_recv (F := F) c false)); iapply (recv_slots (F := F) c false).2; iexact H4
  iapply (Entails.of_eq (any_recv (F := F) c true)); iapply (recv_slots (F := F) c true).2; iexact H5

/-- What is owed at launch is owed to arrivals or to barriers: above level 0. -/
theorem owed_start {c : Dev nD} {g : GSem nD τ sig} {u : Unit} (h : 0 < O₀ c g u) : L g = {()} ∧ 0 < lv g u := by
  unfold O₀ O₁ at h
  rw [Pi.add_apply, Finsupp.add_apply, tallyAt_apply, Pi.add_apply, Finsupp.add_apply, tallyAt_apply] at h
  by_cases h0 : g = kcell (frm false c) none ∧ u = ()
  · rw [h0.1]; exact ⟨L_tc _ _, by rw [lv_bar]; decide⟩
  by_cases h1 : g = kcell (frm true c) none ∧ u = ()
  · rw [h1.1]; exact ⟨L_tc _ _, by rw [lv_bar]; decide⟩
  rw [if_neg h0, if_neg h1] at h
  change 0 < owed c 48 g u at h
  obtain ⟨p, -, rfl⟩ := owed_pos h
  exact ⟨L_tc _ _, by rw [lv_recv]; omega⟩

/-- The pipeline may wait for its own copies whatever the device owes. -/
theorem mayWait_stage (c : Dev nD) (q : DmaSem sig) (hq : ∀ k, csem k ≠ SemLoc.dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rw [(owed_start hg).1]; exact Finset.mem_singleton_self _)
      (fun p hp => by
        rw [Finset.mem_singleton.mp hp]
        unfold lv
        rw [Function.extend_apply' _ _ _ (fun ⟨k, hk⟩ => hq k hk)])
      (fun g u hg => (owed_start hg).2)
  · rw [MayWait_zero]; iintro -; iempintro

/-- All the pipeline's waits are allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

/-! ## The run -/

set_option maxRecDepth 100000 in
/-- Every run of the four devices ends, from any memory with the counters at zero: every device then holds the same
    result, its arguments as they were and every counter at zero. -/
theorem run_arrays : θ_run defs (onTc (τ := τ) (main (F := F))) ⟨m, fun _ => 0, ρ⟩ (fun r =>
    (∀ c : Dev nD, (∀ w : Fin cfg0.W, r.2.mem ((cfg0.win w).arr.view.loc (c : Thread nD τ)) = (dats m 0 c).arrAt w cfg0.N)
      ∧ r.2.mem ((c : Thread nD τ).loc main_v1) = outC (xIn m) (wIn m)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt (xIn m) (wIn m)) (G' := given (xIn m) (wIn m)) (u₀ := u₀)
    (hu₀ := by
      unfold u₀
      iintro Hu
      ihave H := (ownU_pair _ _) $$ Hu
      icases H with ⟨HP, HX⟩
      imod (deal (xIn m) (wIn m)) $$ HX with HG
      imodintro
      isplitl [HP] <;> iassumption)
    (hglob := glob (xIn m) (wIn m))
    (hA := fun _ _ => rfl) (hpf := fun _ k => k.elim0)
    (X := enter m) (Y := leave m) (Z := fun _ => iprop(emp))
    (hX := enter_intro m ρ) (hin := phi_in m) (hout := phi_out m)
    (QY := fun c s => (∀ sm : SemLoc sig, sm.isScoped .tc = false → s.sem ((c.tc : Thread nD τ), sm) = 0)
      ∧ s.mem ((c : Thread nD τ).loc main_v1) = outC (xIn m) (wIn m))
    (hY := fun c s' => by
      unfold leave
      iintro ⟨⟨Hu, Hv⟩, -, HSI⟩
      icombine HSI Hv gives %hv
      imod (Pipeline.unscopedSems0_read (X := unscopedSems0 c) (c := c) fupd_intro s') $$ [Hu HSI] with ⟨%hu, HSI⟩
      · isplitl [Hu] <;> iassumption
      imodintro
      isplitr
      · ipureintro; exact ⟨hu, funext fun i => hv i (Finset.mem_univ i)⟩
      · iexact HSI)
    (hQ := fun _ h hs => ⟨fun c => ⟨fun w => (h c).1 w, (h c).2.2.2⟩, sem_eq_zero hs fun c => (h c).2.2.1⟩)

/-- The staged activations are the whole argument; -/
theorem xIn_eq (c : Dev nD) : xIn m c = m ((c : Thread nD τ).loc main_arg0) := by
  funext i
  refine congrArg (m ((c : Thread nD τ).loc main_arg0)) (funext fun a => Fin.ext ?_)
  exact Pipeline.Window.rect_emb_val_of_index_zero win0_0 t0_0 a (by fin_cases a <;> rfl) i
/-- so are the staged weights. -/
theorem wIn_eq (c : Dev nD) : wIn m c = m ((c : Thread nD τ).loc main_arg1) := by
  funext i
  refine congrArg (m ((c : Thread nD τ).loc main_arg1)) (funext fun a => Fin.ext ?_)
  exact Pipeline.Window.rect_emb_val_of_index_zero win0_1 t0_0 a (by fin_cases a <;> rfl) i

/-- Every run ends with the result on every device, the arguments as they were and the counters at zero. -/
theorem run_main : θ_run defs (onTc (τ := τ) (main (F := F))) ⟨m, fun _ => 0, ρ⟩ (fun r =>
    (∀ c : Dev nD, r.2.mem ((c : Thread nD τ).loc main_v1) = outC (xIn m) (wIn m)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨(h.1 c).2, ((h.1 c).1 (0 : Fin 2)).trans ((dats m 0 c).arrAt_in (0 : Fin 2) rfl _),
    ((h.1 c).1 (1 : Fin 2)).trans ((dats m 0 c).arrAt_in (1 : Fin 2) rfl _)⟩, h.2⟩) (run_arrays m ρ)

/-- The frame alone. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => (h.1 c).2, h.2⟩) (run_main m ρ)

end Cert.KernelIdeal.Own
-- ==== Proof.Same.lean ====
/- The two prints of the kernel are one program. -/
module

public import proofs.«01_k».proof.Proof.Gen.Kernel
public import proofs.«01_k».proof.Proof.Gen.KernelIdeal

@[expose] public section

namespace Cert.Proof

open Idealize.ShloMosaic

variable {F : FTy → Type} [FloatOps F]

set_option maxRecDepth 100000 in
/-- The two kernels' bodies are the same. -/
theorem body_same : Cert.Kernel.cc0_body (F := F) = Cert.KernelIdeal.cc0_body (F := F) := rfl

set_option maxRecDepth 100000 in
/-- So are the tables of bodies; -/
theorem table_same : Cert.Kernel.defs₀ (F := F) = Cert.KernelIdeal.defs₀ (F := F) := by
  unfold Cert.Kernel.defs₀ Cert.KernelIdeal.defs₀
  refine congrArg Defs.onTc (funext fun l => funext fun x => ?_)
  obtain ⟨_ | n, h⟩ := l
  · rfl
  · exact absurd h (by omega)

set_option maxRecDepth 100000 in
/-- and the tables with the pipeline. -/
theorem defs_same : Cert.Kernel.defs (F := F) = Cert.KernelIdeal.defs (F := F) :=
  (show Cert.Kernel.defs (F := F) = Pipeline.defs Cert.Kernel.pcfgs (Cert.KernelIdeal.defs₀ (F := F)) from
    congrArg (Pipeline.defs Cert.Kernel.pcfgs) table_same).trans rfl

end Cert.Proof
-- ==== Proof.Parts.lean ====
/- The kernel's values at an index, over the reals: a block that travels holds sums of partial products, one per
   device passed so far. -/
module

public import proofs.«01_k».proof.Proof.Split
public import Idealize.ShloMosaic.PureOps.Ideal
public import Idealize.ShloMosaic.Lib.Pointwise

@[expose] public section

set_option maxRecDepth 16384

noncomputable section

namespace Cert.KernelIdeal.Own

open Cert.KernelIdeal Cert.KernelIdeal.Gen
open Idealize.ShloMosaic
open scoped BigOperators

/-- The activation over the extended reals. -/
def act (y : EReal) : EReal := y * Ideal.div 1 (1 + Ideal.exp (0 - y))

/-- A slot's contents without the leading axis, at an index. -/
theorem flat_apply (r : Vec Ideal S1x512x256 .bf16) (p : Fin 512) (q : Fin 256) : flat r (ix2 p q) = r (ix3 0 p q) := by
  pointwise [flat]

/-- A device's own product, at an index. -/
theorem payMul_apply (x : Vec Ideal S512x512 .bf16) (w : Vec Ideal S512x256 .bf16) (p : Fin 512) (q : Fin 256) :
    flat (payMul x w) (ix2 p q) = ∑ k : Fin 512, x (ix2 p k) * w (ix2 k q) := by
  pointwise [k0_pay3, k0_pay2]

/-- A received block plus a block of the accumulator. -/
theorem payAdd_apply (r : Vec Ideal S1x512x256 .bf16) (a : Vec Ideal S512x256 .bf16) (p : Fin 512) (q : Fin 256) :
    flat (payAdd r a) (ix2 p q) = flat r (ix2 p q) + a (ix2 p q) := by
  rw [flat_apply r]
  pointwise [k0_pay16]

/-- The activation of such a sum. -/
theorem paySilu_apply (r : Vec Ideal S1x512x256 .bf16) (a : Vec Ideal S512x256 .bf16) (p : Fin 512) (q : Fin 256) :
    flat (paySilu r a) (ix2 p q) = act (flat r (ix2 p q) + a (ix2 p q)) := by
  rw [flat_apply r]
  pointwise [k0_pay36, act]

/-- A row block of the accumulator. -/
theorem pay12_apply (x : Vec Ideal S512x512 .bf16) (w : Vec Ideal S512x2048 .bf16) (p : Fin 512) (q : Fin 2048) :
    k0_pay12 x w (ix2 p q) = ∑ k : Fin 512, x (ix2 p k) * w (ix2 k q) := by
  pointwise [k0_pay12]

/-- The weights are stored as they are. -/
theorem pay1_eq (w : Vec Ideal S512x2048 .bf16) : k0_pay1 w = w := by
  funext i
  pointwise [k0_pay1]

/-! ## The blocks that are loaded -/

/-- Row `p` of row block `r`. -/
def rowAt (r : Fin 4) (p : Fin 512) : Fin 2048 := ⟨512 * r.val + p.val, by omega⟩
/-- Column `q` of a direction's column block. -/
def colAt (b : Bool) (s : Fin 4) (q : Fin 256) : Fin 2048 := ⟨colN b s + q.val, by cases b <;> simp only [colN] <;> omega⟩

/-- Which row blocks the accumulator is for. -/
def othRow (c : Dev nD) (r : Fin 3) : Fin 4 := match r with | 0 => c + 3 | 1 => c + 1 | 2 => c + 2

/-- Where a device's own rows begin. -/
theorem off1_eq : ∀ c : Dev nD, k0_off1 c = ![512 * c.val, 0] := by decide +kernel
/-- Where the other rows begin. -/
theorem off2_eq : ∀ (c : Dev nD) (r : Fin 3), k0_off2 c (k0_off2_at r) = ![512 * (othRow c r).val, 0] := by decide +kernel

variable (xs : Dev nD → Vec Ideal S2048x512 .bf16) (ws : Dev nD → Vec Ideal S512x2048 .bf16)

/-- A device's own rows. -/
theorem xOwn_apply (c : Dev nD) (p k : Fin 512) : xOwn xs c (ix2 p k) = xs c (ix2 (rowAt c p) k) := by
  refine congrArg (xs c) (funext fun a => Fin.ext ?_)
  have h := off1_eq c
  fin_cases a
  · show k0_off1 c 0 + 1 * p.val = 512 * c.val + p.val
    rw [h]; show 512 * c.val + 1 * p.val = _; omega
  · show k0_off1 c 1 + 1 * k.val = k.val
    rw [h]; show 0 + 1 * k.val = _; omega

/-- The other rows. -/
theorem xOther_apply (c : Dev nD) (r : Fin 3) (p k : Fin 512) : xOther xs c r (ix2 p k) = xs c (ix2 (rowAt (othRow c r) p) k) := by
  refine congrArg (xs c) (funext fun a => Fin.ext ?_)
  have h := off2_eq c r
  fin_cases a
  · show k0_off2 c (k0_off2_at r) 0 + 1 * p.val = 512 * (othRow c r).val + p.val
    rw [h]; show 512 * (othRow c r).val + 1 * p.val = _; omega
  · show k0_off2 c (k0_off2_at r) 1 + 1 * k.val = k.val
    rw [h]; show 0 + 1 * k.val = _; omega

/-- A column block of the weights. -/
theorem wCol_apply (c : Dev nD) (b : Bool) (s : Fin 4) (k : Fin 512) (q : Fin 256) :
    wCol ws c b s (ix2 k q) = ws c (ix2 k (colAt b s q)) := by
  have e : wScr ws c = ws c := pay1_eq (ws c)
  unfold wCol
  rw [e]
  refine congrArg (ws c) (funext fun a => Fin.ext ?_)
  fin_cases a
  · show 0 + 1 * k.val = k.val; omega
  · show colN b s + 1 * q.val = colN b s + q.val; omega

/-! ## The partial products -/

/-- Device `e`'s part of an entry of the product. -/
def part (e : Dev nD) (i j : Fin 2048) : EReal := ∑ k : Fin 512, xs e (ix2 i k) * ws e (ix2 k j)

/-- A block of the accumulator. -/
theorem accB_apply (c : Dev nD) (b : Bool) (h : Fin 3) (s : Fin 4) (p : Fin 512) (q : Fin 256) :
    accB xs ws c b h s (ix2 p q) = part xs ws c (rowAt (othRow c (accIx b h)) p) (colAt b s q) := by
  have e : wScr ws c = ws c := pay1_eq (ws c)
  show k0_pay12 (xOther xs c (accIx b h)) (wScr ws c) (ix2 p (colAt b s q)) = _
  rw [pay12_apply, e]
  exact Finset.sum_congr rfl fun k _ => by rw [xOther_apply]

/-- The row block that a hop adds to is the one the block started at. -/
theorem oth_eq : ∀ (c : Dev nD) (b : Bool), othRow c (accIx b 0) = frm b c ∧ othRow c (accIx b 1) = frm b (frm b c)
    ∧ othRow c (accIx b 2) = frm b (frm b (frm b c)) := by decide +kernel

/-- The four devices of a turn are all of them. -/
theorem sum_turn (g : Dev nD → EReal) (c : Dev nD) (b : Bool) :
    g (frm b (frm b (frm b c))) + g (frm b (frm b c)) + g (frm b c) + g c = ∑ e : Dev nD, g e := by
  have hf : ∀ c : Dev nD, frm false c = c + 3 := by decide +kernel
  have ht : ∀ c : Dev nD, frm true c = c + 1 := by decide +kernel
  have hs : ∑ e : Dev nD, g e = g 0 + g 1 + g 2 + g 3 := Fin.sum_univ_four g
  rw [hs]
  cases b
  · simp only [hf]
    fin_cases c
    · show g 1 + g 2 + g 3 + g 0 = _; ac_rfl
    · show g 2 + g 3 + g 0 + g 1 = _; ac_rfl
    · show g 3 + g 0 + g 1 + g 2 = _; ac_rfl
    · show g 0 + g 1 + g 2 + g 3 = _; ac_rfl
  · simp only [ht]
    fin_cases c
    · show g 3 + g 2 + g 1 + g 0 = _; ac_rfl
    · show g 0 + g 3 + g 2 + g 1 = _; ac_rfl
    · show g 1 + g 0 + g 3 + g 2 = _; ac_rfl
    · show g 2 + g 1 + g 0 + g 3 = _; ac_rfl

/-- What the third hop sends: the activation of the whole sum, for the row block where the block started. -/
theorem V3_apply (c : Dev nD) (b : Bool) (s : Fin 4) (p : Fin 512) (q : Fin 256) :
    flat (V xs ws 3 c b s) (ix2 p q) = act (∑ e : Dev nD, part xs ws e (rowAt (frm b (frm b (frm b c))) p) (colAt b s q)) := by
  obtain ⟨o0, -, -⟩ := oth_eq (frm b (frm b c)) b
  obtain ⟨-, o1, -⟩ := oth_eq (frm b c) b
  obtain ⟨-, -, o2⟩ := oth_eq c b
  rw [← sum_turn _ c b]
  show flat (paySilu (V xs ws 2 (frm b c) b s) (accB xs ws c b 2 s)) (ix2 p q) = _
  rw [paySilu_apply, accB_apply, o2]
  show act (flat (payAdd (V xs ws 1 (frm b (frm b c)) b s) (accB xs ws (frm b c) b 1 s)) (ix2 p q) + _) = _
  rw [payAdd_apply, accB_apply, o1]
  show act (flat (payAdd (V xs ws 0 (frm b (frm b (frm b c))) b s) (accB xs ws (frm b (frm b c)) b 0 s)) (ix2 p q) + _ + _) = _
  rw [payAdd_apply, accB_apply, o0]
  show act (flat (payMul (xOwn xs (frm b (frm b (frm b c)))) (wCol ws (frm b (frm b (frm b c))) b s)) (ix2 p q) + _ + _ + _) = _
  rw [payMul_apply]
  have e : ∑ k : Fin 512, xOwn xs (frm b (frm b (frm b c))) (ix2 p k) * wCol ws (frm b (frm b (frm b c))) b s (ix2 k q)
      = part xs ws (frm b (frm b (frm b c))) (rowAt (frm b (frm b (frm b c))) p) (colAt b s q) :=
    Finset.sum_congr rfl fun k _ => by rw [xOwn_apply, wCol_apply]
  rw [e]

/-- Three steps before the device that finishes a row block is the device whose row block it is. -/
theorem frm_doer : ∀ (b : Bool) (r : Fin 4), frm b (frm b (frm b (doer b r))) = r := by decide +kernel

/-- The kernel's result at an index. -/
theorem outC_apply (i j : Fin 2048) : outC xs ws (ix2 i j) = act (∑ e : Dev nD, part xs ws e i j) := by
  show flat (V xs ws 3 (doer (dirOf j) ⟨i.val / 512, by omega⟩) (dirOf j) (colOf j))
    (ix2 ⟨i.val % 512, by omega⟩ ⟨j.val % 256, by omega⟩) = _
  rw [V3_apply, frm_doer]
  have hi : rowAt ⟨i.val / 512, by omega⟩ ⟨i.val % 512, by omega⟩ = i := Fin.ext (by simp only [rowAt]; omega)
  have hj : colAt (dirOf j) (colOf j) ⟨j.val % 256, by omega⟩ = j := by
    apply Fin.ext
    by_cases h : 1024 ≤ j.val
    · have hd : dirOf j = true := decide_eq_true h
      rw [hd]
      show 1024 + 256 * (j.val % 1024 / 256) + j.val % 256 = j.val
      omega
    · have hd : dirOf j = false := decide_eq_false h
      rw [hd]
      show 0 + 256 * (j.val % 1024 / 256) + j.val % 256 = j.val
      omega
  rw [hi, hj]

end Cert.KernelIdeal.Own

end
-- ==== Proof.Value.lean ====
/- The kernel's result is the reference's: the four devices' partial products add up to the whole product, and the two
   ways of writing the activation agree. -/
module

public import proofs.«01_k».proof.Defs
public import proofs.«01_k».proof.Proof.Parts
public import proofs.«01_k».proof.Proof.Run
public import proofs.«01_k».proof.Proof.Gen.PlainIdeal.Run
public import proofs.«01_k».proof.Proof.Gen.ReferenceIdeal.Run
public import proofs.«01_k».proof.Proof.Gen.Pre_small_KernelIdeal
public import Idealize.ShloMosaic.Lib.Layout
public import Idealize.ShloMosaic.Lib.ReduceAll

@[expose] public section

set_option maxRecDepth 16384

noncomputable section

namespace Cert.Proof

open Cert.KernelIdeal (S2048x512 S512x2048 S2048x2048)
open Cert.KernelIdeal.Own
open Idealize.ShloMosaic Idealize.SL.Sem
open scoped BigOperators

/-! ## The activation -/

/-- The exponential is not negative. -/
theorem exp_nonneg (z : EReal) : 0 ≤ Ideal.exp z := by
  induction z using EReal.rec with
  | bot => simp
  | top => simp
  | coe r => rw [Ideal.exp_coe]; exact_mod_cast (Real.exp_pos r).le

/-- The activation's denominator is not zero. -/
theorem den_ne (z : EReal) : (1 : EReal) + Ideal.exp z ≠ 0 := by
  have h : (1 : EReal) ≤ 1 + Ideal.exp z := le_add_of_nonneg_right (exp_nonneg z)
  exact (lt_of_lt_of_le zero_lt_one h).ne'

/-- The product with the reciprocal is the quotient. -/
theorem act_eq (y : EReal) : act y = Ideal.div y (1 + Ideal.exp (-y)) := by
  unfold act
  rw [sub_eq_add_neg, zero_add]
  unfold Ideal.div
  rw [if_neg (den_ne _), if_neg (den_ne _), one_mul]

/-! ## The whole product -/

/-- A sum over all the columns is the sum over the devices' blocks of columns. -/
theorem sum_blocks (f : Fin 2048 → EReal) : ∑ k : Fin 2048, f k = ∑ e : Fin 4, ∑ k : Fin 512, f (rowAt e k) := by
  rw [← Equiv.sum_comp (finProdFinEquiv (m := 4) (n := 512)) (f : Fin (4 * 512) → EReal), Fintype.sum_prod_type]
  refine Finset.sum_congr rfl fun e _ => Finset.sum_congr rfl fun k _ => congrArg f (Fin.ext ?_)
  show k.val + 512 * e.val = 512 * e.val + k.val
  omega

/-- An entry of the whole product. -/
def whole (X W : Vec Ideal S2048x2048 .bf16) (i j : Fin 2048) : EReal := ∑ k : Fin 2048, X (ix2 i k) * W (ix2 k j)

variable (X W : Vec Ideal S2048x2048 .bf16) (xs : Fin 4 → Vec Ideal S2048x512 .bf16) (ws : Fin 4 → Vec Ideal S512x2048 .bf16)

/-- The parts of the four devices add up to it. -/
theorem sum_parts (hx : ∀ c, xs c = Layout.block ⟨2, ![2048, 512]⟩ ⟨2, ![2048, 2048]⟩ 1 4 c X)
    (hw : ∀ c, ws c = Layout.block ⟨2, ![512, 2048]⟩ ⟨2, ![2048, 2048]⟩ 0 4 c W) (i j : Fin 2048) :
    ∑ e : Fin 4, part xs ws e i j = whole X W i j := by
  unfold whole
  rw [sum_blocks]
  refine Finset.sum_congr rfl fun e _ => Finset.sum_congr rfl fun k _ => ?_
  rw [hx e, hw e, Layout.block_apply, Layout.block_apply]
  congr 1
  · refine congrArg X (funext fun a => Fin.ext ?_)
    fin_cases a
    · rfl
    · show e.val * 512 + k.val = 512 * e.val + k.val; omega
  · refine congrArg W (funext fun a => Fin.ext ?_)
    fin_cases a
    · show e.val * 512 + k.val = 512 * e.val + k.val; omega
    · rfl

/-! ## Without the clip -/

/-- The reference's result without the clip, as its operations compose. -/
def plainOut : FVec Ideal S2048x2048 .bf16 :=
  truncf (F := Ideal) .bf16 (Host.divf (Host.dotGeneral Cert.PlainIdeal.dot_S2048x2048_S2048x2048_S2048x2048_1_0_0_1_n_n none (extf .f32 (X : FVec Ideal S2048x2048 .bf16) Cert.PlainIdeal.Gen.bitsLt_bf16_f32) (extf .f32 (W : FVec Ideal S2048x2048 .bf16) Cert.PlainIdeal.Gen.bitsLt_bf16_f32))
    (addf (broadcastInDim S2048x2048 ![] Cert.PlainIdeal.Gen.bcast_S_S2048x2048 (constant Cert.PlainIdeal.S_ .f32 0x3F800000#32))
      (Host.exp (Host.negf (Host.dotGeneral Cert.PlainIdeal.dot_S2048x2048_S2048x2048_S2048x2048_1_0_0_1_n_n none (extf .f32 (X : FVec Ideal S2048x2048 .bf16) Cert.PlainIdeal.Gen.bitsLt_bf16_f32) (extf .f32 (W : FVec Ideal S2048x2048 .bf16) Cert.PlainIdeal.Gen.bitsLt_bf16_f32)))))) Cert.PlainIdeal.Gen.bitsLt_bf16_f32

/-- It at an index. -/
theorem plainOut_apply (i j : Fin 2048) : plainOut X W (ix2 i j) = Ideal.div (whole X W i j) (1 + Ideal.exp (-(whole X W i j))) := by
  pointwise [plainOut, whole]

/-- The kernel's result is the reference's without the clip. -/
theorem out_eq_plain (hx : ∀ c, xs c = Layout.block ⟨2, ![2048, 512]⟩ ⟨2, ![2048, 2048]⟩ 1 4 c X)
    (hw : ∀ c, ws c = Layout.block ⟨2, ![512, 2048]⟩ ⟨2, ![2048, 2048]⟩ 0 4 c W) : outC xs ws = plainOut X W := by
  funext y
  obtain ⟨i, j, rfl⟩ : ∃ (i j : Fin 2048), y = ix2 i j := ⟨y 0, y 1, eq_ix2 y⟩
  rw [outC_apply, plainOut_apply, act_eq]
  have e := sum_parts X W xs ws hx hw i j
  exact congrArg (fun z => Ideal.div z (1 + Ideal.exp (-z))) e

/-! ## With the clip -/

/-- The reference's result, as its operations compose. -/
def clipOut : FVec Ideal S2048x2048 .bf16 :=
  truncf (F := Ideal) .bf16 (Host.divf (Host.dotGeneral Cert.ReferenceIdeal.dot_S2048x2048_S2048x2048_S2048x2048_1_0_0_1_n_n none (extf .f32 (X : FVec Ideal S2048x2048 .bf16) Cert.ReferenceIdeal.Gen.bitsLt_bf16_f32) (extf .f32 (W : FVec Ideal S2048x2048 .bf16) Cert.ReferenceIdeal.Gen.bitsLt_bf16_f32))
    (addf (broadcastInDim S2048x2048 ![] Cert.ReferenceIdeal.Gen.bcast_S_S2048x2048 (constant Cert.ReferenceIdeal.S_ .f32 0x3F800000#32))
      (Host.exp (Host.negf (minimumf (broadcastInDim S2048x2048 ![] Cert.ReferenceIdeal.Gen.bcast_S_S2048x2048 (id (constant Cert.ReferenceIdeal.S_ .f32 0x42700000#32)))
        (maximumf (broadcastInDim S2048x2048 ![] Cert.ReferenceIdeal.Gen.bcast_S_S2048x2048 (id (constant Cert.ReferenceIdeal.S_ .f32 0xC2700000#32)))
          (Host.dotGeneral Cert.ReferenceIdeal.dot_S2048x2048_S2048x2048_S2048x2048_1_0_0_1_n_n none (extf .f32 (X : FVec Ideal S2048x2048 .bf16) Cert.ReferenceIdeal.Gen.bitsLt_bf16_f32) (extf .f32 (W : FVec Ideal S2048x2048 .bf16) Cert.ReferenceIdeal.Gen.bitsLt_bf16_f32)))))))) Cert.ReferenceIdeal.Gen.bitsLt_bf16_f32

/-- The clip's upper bound is 60, -/
theorem ofBits_60 : Ideal.ofBits .f32 0x42700000#32 = ((60 : ℝ) : EReal) := by
  simp [Ideal.ofBits, Ideal.ieee, -EReal.coe_mul]; norm_num
/-- its lower bound -60, -/
theorem ofBits_m60 : Ideal.ofBits .f32 0xC2700000#32 = ((-60 : ℝ) : EReal) := by
  simp [Ideal.ofBits, Ideal.ieee, -EReal.coe_mul]; norm_num
/-- and the precondition's bound 15. -/
theorem ofBits_15 : Ideal.ofBits .f32 0x41700000#32 = ((15 : ℝ) : EReal) := by
  simp [Ideal.ofBits, Ideal.ieee, -EReal.coe_mul]; norm_num

/-- The reference's result at an index. -/
theorem clipOut_apply (i j : Fin 2048) : clipOut X W (ix2 i j) =
    Ideal.div (whole X W i j) (1 + Ideal.exp (-(min ((60 : ℝ) : EReal) (max ((-60 : ℝ) : EReal) (whole X W i j))))) := by
  rw [← ofBits_60, ← ofBits_m60]
  pointwise [clipOut, whole, id]

/-- The precondition bounds a device's part of each entry. -/
theorem part_le (e : Fin 4) (h : Cert.Pre_small_KernelIdeal.fn (F := Ideal) (xs e) (ws e) = fun _ => 1#1) (i j : Fin 2048) :
    ((-15 : ℝ) : EReal) ≤ part xs ws e i j ∧ part xs ws e i j ≤ ((15 : ℝ) : EReal) := by
  have h0 := congrFun h ix0
  dsimp only [Cert.Pre_small_KernelIdeal.fn] at h0
  have h1 := Host.reduce_andi_all _ _ _ _ _ h0 (ix2 i j)
  pointwise at h1
  rw [Ideal.absf_def, ofBits_15] at h1
  have h2 : max (part xs ws e i j) (-(part xs ws e i j)) ≤ ((15 : ℝ) : EReal) := by
    by_contra hn
    have h3 : BitVec.ofBool (decide (max (part xs ws e i j) (-(part xs ws e i j)) ≤ ((15 : ℝ) : EReal))) = 1#1 := h1
    rw [decide_eq_false hn] at h3
    exact absurd h3 (by decide)
  obtain ⟨ha, hb⟩ := max_le_iff.1 h2
  refine ⟨?_, ha⟩
  rw [EReal.neg_le] at hb
  exact hb

/-- So the clip changes nothing. -/
theorem clip_id (hx : ∀ c, xs c = Layout.block ⟨2, ![2048, 512]⟩ ⟨2, ![2048, 2048]⟩ 1 4 c X)
    (hw : ∀ c, ws c = Layout.block ⟨2, ![512, 2048]⟩ ⟨2, ![2048, 2048]⟩ 0 4 c W)
    (h : ∀ e, Cert.Pre_small_KernelIdeal.fn (F := Ideal) (xs e) (ws e) = fun _ => 1#1) (i j : Fin 2048) :
    min ((60 : ℝ) : EReal) (max ((-60 : ℝ) : EReal) (whole X W i j)) = whole X W i j := by
  rw [← sum_parts X W xs ws hx hw i j, Fin.sum_univ_four]
  obtain ⟨a0, b0⟩ := part_le xs ws 0 (h 0) i j
  obtain ⟨a1, b1⟩ := part_le xs ws 1 (h 1) i j
  obtain ⟨a2, b2⟩ := part_le xs ws 2 (h 2) i j
  obtain ⟨a3, b3⟩ := part_le xs ws 3 (h 3) i j
  have lo : (((-15 : ℝ) : EReal) + ((-15 : ℝ) : EReal) + ((-15 : ℝ) : EReal) + ((-15 : ℝ) : EReal)) = ((-60 : ℝ) : EReal) := by
    simp only [← EReal.coe_add]; norm_num
  have hi : (((15 : ℝ) : EReal) + ((15 : ℝ) : EReal) + ((15 : ℝ) : EReal) + ((15 : ℝ) : EReal)) = ((60 : ℝ) : EReal) := by
    simp only [← EReal.coe_add]; norm_num
  rw [← lo, ← hi, max_eq_right (add_le_add (add_le_add (add_le_add a0 a1) a2) a3),
    min_eq_right (add_le_add (add_le_add (add_le_add b0 b1) b2) b3)]

/-- Where every device's parts are small, the kernel's result is the reference's. -/
theorem out_eq_clip (hx : ∀ c, xs c = Layout.block ⟨2, ![2048, 512]⟩ ⟨2, ![2048, 2048]⟩ 1 4 c X)
    (hw : ∀ c, ws c = Layout.block ⟨2, ![512, 2048]⟩ ⟨2, ![2048, 2048]⟩ 0 4 c W)
    (h : ∀ e, Cert.Pre_small_KernelIdeal.fn (F := Ideal) (xs e) (ws e) = fun _ => 1#1) : outC xs ws = clipOut X W := by
  rw [out_eq_plain X W xs ws hx hw]
  funext y
  obtain ⟨i, j, rfl⟩ : ∃ (i j : Fin 2048), y = ix2 i j := ⟨y 0, y 1, eq_ix2 y⟩
  rw [plainOut_apply, clipOut_apply, clip_id X W xs ws hx hw h]

/-! ## The claims -/

/-- The kernel's devices' arguments as two families of arrays give its result. -/
theorem run_kernel (m : (ℓ : Loc Cert.KernelIdeal.nD Cert.KernelIdeal.τ Cert.KernelIdeal.sig) → Buf (Elt Ideal) ℓ)
    (g : Dev Cert.KernelIdeal.nD → PrngReg) (v : FVec Ideal S2048x2048 .bf16) (e : outC (xIn m) (wIn m) = v) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v1) = v
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun r h c => ⟨((h.1 c).1).trans e, (h.1 c).2⟩) (run_main (F := Ideal) m g)

/-- Against the product and its activation without the clip. -/
theorem algebraic_plain : Cert.algebraic_KernelIdeal_PlainIdeal := fun m g m' g' _ hm =>
  ⟨plainOut (m' (((0 : Dev Cert.PlainIdeal.nD).tc : Thread Cert.PlainIdeal.nD Cert.PlainIdeal.τ).loc Cert.PlainIdeal.main_arg0))
      (m' (((0 : Dev Cert.PlainIdeal.nD).tc : Thread Cert.PlainIdeal.nD Cert.PlainIdeal.τ).loc Cert.PlainIdeal.main_arg1)),
    run_kernel m g _ (out_eq_plain _ _ _ _ (fun c => (xIn_eq m c).trans (hm c).1) (fun c => (wIn_eq m c).trans (hm c).2)),
    (θ_run Cert.PlainIdeal.defs _ _).mono (fun r h => h 0) (Cert.PlainIdeal.Value.run (F := Ideal) m' g')⟩

/-- Against the reference, where every device's part of every entry is small. -/
theorem algebraic_clip : Cert.algebraic_KernelIdeal_ReferenceIdeal_pre_small_KernelIdeal := fun m g m' g' hp hm =>
  ⟨clipOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    run_kernel m g _ (out_eq_clip _ _ _ _ (fun c => (xIn_eq m c).trans (hm c).1) (fun c => (wIn_eq m c).trans (hm c).2)
      (fun c => by rw [xIn_eq, wIn_eq]; exact hp c)),
    (θ_run Cert.ReferenceIdeal.defs _ _).mono (fun r h => h 0) (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Value
public import proofs.«01_k».proof.Proof.Gen.PlainIdeal
public import proofs.«01_k».proof.Proof.Gen.PlainIdeal.Run
public import proofs.«01_k».proof.Proof.Gen.Pre_small_KernelIdeal
public import proofs.«01_k».proof.Proof.Gen.Pre_small_ReferenceIdeal
public import Idealize.ShloMosaic.Adequacy
public import Idealize.ShloMosaic.Init

@[expose] public section

noncomputable section

namespace Cert.Proof

open Idealize.ShloMosaic Idealize.SL.Sem

set_option maxRecDepth 100000 in
/-- The printed program runs to its end, its arguments unchanged and every counter at zero: the run of the other program,
    whose text is the same, at machine floats. -/
theorem frame_kernel : Cert.quiescent_Kernel := fun m ρ _ => by
  rw [defs_same]
  exact Cert.KernelIdeal.Own.run_frame (F := Bits) m ρ

/-- So does the same program over the reals. -/
theorem frame_kernelIdeal : Cert.quiescent_KernelIdeal := fun m ρ _ => Cert.KernelIdeal.Own.run_frame (F := Ideal) m ρ

/-- The reference runs to its end, its arguments unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the one without the clip. -/
theorem frame_plain : Cert.quiescent_PlainIdeal := fun m ρ _ =>
  (θ_run Cert.PlainIdeal.defs _ _).mono (fun r h => ⟨fun c => (h c).2, sem_eq_zero_of_no_sems (by decide) r.2⟩)
    (Cert.PlainIdeal.Value.run (F := Ideal) m ρ)

/-- Everything that is claimed. -/
theorem claim : Cert.Claim :=
  ⟨Cert.Kernel.Gen.facts, Cert.KernelIdeal.Gen.facts, Cert.ReferenceIdeal.Gen.facts, Cert.PlainIdeal.Gen.facts,
    Cert.Pre_small_KernelIdeal.Gen.facts, Cert.Pre_small_ReferenceIdeal.Gen.facts,
    frame_kernel, frame_kernelIdeal, fun m ρ _ => frame_kernelIdeal m ρ trivial, frame_reference, fun m ρ _ => frame_reference m ρ trivial,
    frame_plain, trivial, algebraic_plain, algebraic_clip⟩

end Cert.Proof

end
